-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S16x2x1024 : Shape := ⟨3, ![16, 2, 1024]⟩
abbrev S8192x1 : Shape := ⟨2, ![8192, 1]⟩
abbrev S3072x1024 : Shape := ⟨2, ![3072, 1024]⟩
abbrev S3072 : Shape := ⟨1, ![3072]⟩
abbrev S512x16x1 : Shape := ⟨3, ![512, 16, 1]⟩
abbrev S1x3072x1024 : Shape := ⟨3, ![1, 3072, 1024]⟩
abbrev S2x3072x1024 : Shape := ⟨3, ![2, 3072, 1024]⟩
abbrev S1x2x3072x1024 : Shape := ⟨4, ![1, 2, 3072, 1024]⟩
abbrev S2x2x3072x1024 : Shape := ⟨4, ![2, 2, 3072, 1024]⟩
abbrev S2x2x1024x3072 : Shape := ⟨4, ![2, 2, 1024, 3072]⟩
abbrev S1x3072 : Shape := ⟨2, ![1, 3072]⟩
abbrev S1x1x3072 : Shape := ⟨3, ![1, 1, 3072]⟩
abbrev S2x1x3072 : Shape := ⟨3, ![2, 1, 3072]⟩
abbrev S1x2x1x3072 : Shape := ⟨4, ![1, 2, 1, 3072]⟩
abbrev S2x2x1x3072 : Shape := ⟨4, ![2, 2, 1, 3072]⟩
abbrev S2x16x1024 : Shape := ⟨3, ![2, 16, 1024]⟩
abbrev S1x1x1024x3072 : Shape := ⟨4, ![1, 1, 1024, 3072]⟩
abbrev S1024x3072 : Shape := ⟨2, ![1024, 3072]⟩
abbrev S1x1x1x3072 : Shape := ⟨4, ![1, 1, 1, 3072]⟩
abbrev S1x16x1024 : Shape := ⟨3, ![1, 16, 1024]⟩
abbrev S16x1024 : Shape := ⟨2, ![16, 1024]⟩
abbrev S256x1024 : Shape := ⟨2, ![256, 1024]⟩
abbrev S16x16x1 : Shape := ⟨3, ![16, 16, 1]⟩
abbrev S256x3072 : Shape := ⟨2, ![256, 3072]⟩
abbrev S1x16x1 : Shape := ⟨3, ![1, 16, 1]⟩
abbrev S16x1 : Shape := ⟨2, ![16, 1]⟩
abbrev S16x3072 : Shape := ⟨2, ![16, 3072]⟩
abbrev S16x1x1024 : Shape := ⟨3, ![16, 1, 1024]⟩

abbrev nBuf : Space → Nat
  | .hbm => 65
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S16x2x1024, .f32⟩
  | .hbm, ⟨2, _⟩ => ⟨S8192x1, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S3072x1024, .f32⟩
  | .hbm, ⟨8, _⟩ => ⟨S3072x1024, .f32⟩
  | .hbm, ⟨9, _⟩ => ⟨S3072, .f32⟩
  | .hbm, ⟨10, _⟩ => ⟨S3072, .f32⟩
  | .hbm, ⟨11, _⟩ => ⟨S512x16x1, .f32⟩
  | .hbm, ⟨12, _⟩ => ⟨S1x3072x1024, .f32⟩
  | .hbm, ⟨13, _⟩ => ⟨S1x3072x1024, .f32⟩
  | .hbm, ⟨14, _⟩ => ⟨S2x3072x1024, .f32⟩
  | .hbm, ⟨15, _⟩ => ⟨S1x3072x1024, .f32⟩
  | .hbm, ⟨16, _⟩ => ⟨S1x3072x1024, .f32⟩
  | .hbm, ⟨17, _⟩ => ⟨S2x3072x1024, .f32⟩
  | .hbm, ⟨18, _⟩ => ⟨S1x2x3072x1024, .f32⟩
  | .hbm, ⟨19, _⟩ => ⟨S1x2x3072x1024, .f32⟩
  | .hbm, ⟨20, _⟩ => ⟨S2x2x3072x1024, .f32⟩
  | .hbm, ⟨21, _⟩ => ⟨S2x2x3072x1024, .bf16⟩
  | .hbm, ⟨22, _⟩ => ⟨S2x2x1024x3072, .bf16⟩
  | .hbm, ⟨23, _⟩ => ⟨S1x3072, .f32⟩
  | .hbm, ⟨24, _⟩ => ⟨S1x3072, .f32⟩
  | .hbm, ⟨25, _⟩ => ⟨S1x1x3072, .f32⟩
  | .hbm, ⟨26, _⟩ => ⟨S1x1x3072, .f32⟩
  | .hbm, ⟨27, _⟩ => ⟨S2x1x3072, .f32⟩
  | .hbm, ⟨28, _⟩ => ⟨S1x3072, .f32⟩
  | .hbm, ⟨29, _⟩ => ⟨S1x3072, .f32⟩
  | .hbm, ⟨30, _⟩ => ⟨S1x1x3072, .f32⟩
  | .hbm, ⟨31, _⟩ => ⟨S1x1x3072, .f32⟩
  | .hbm, ⟨32, _⟩ => ⟨S2x1x3072, .f32⟩
  | .hbm, ⟨33, _⟩ => ⟨S1x2x1x3072, .f32⟩
  | .hbm, ⟨34, _⟩ => ⟨S1x2x1x3072, .f32⟩
  | .hbm, ⟨35, _⟩ => ⟨S2x2x1x3072, .f32⟩
  | .hbm, ⟨36, _⟩ => ⟨S2x16x1024, .f32⟩
  | .hbm, ⟨37, _⟩ => ⟨S8192x1024, .bf16⟩
  | .hbm, ⟨38, _⟩ => ⟨S1x1x1024x3072, .bf16⟩
  | .hbm, ⟨39, _⟩ => ⟨S1024x3072, .bf16⟩
  | .hbm, ⟨40, _⟩ => ⟨S1x1x1024x3072, .bf16⟩
  | .hbm, ⟨41, _⟩ => ⟨S1024x3072, .bf16⟩
  | .hbm, ⟨42, _⟩ => ⟨S1x1x1x3072, .f32⟩
  | .hbm, ⟨43, _⟩ => ⟨S1x3072, .f32⟩
  | .hbm, ⟨44, _⟩ => ⟨S1x1x1x3072, .f32⟩
  | .hbm, ⟨45, _⟩ => ⟨S1x3072, .f32⟩
  | .hbm, ⟨46, _⟩ => ⟨S1x16x1024, .f32⟩
  | .hbm, ⟨47, _⟩ => ⟨S16x1024, .f32⟩
  | .hbm, ⟨48, _⟩ => ⟨S8192x1024, .bf16⟩
  | .hbm, ⟨49, _⟩ => ⟨S16x1024, .f32⟩
  | .hbm, ⟨50, _⟩ => ⟨S1x1x1024x3072, .bf16⟩
  | .hbm, ⟨51, _⟩ => ⟨S1024x3072, .bf16⟩
  | .hbm, ⟨52, _⟩ => ⟨S1x1x1024x3072, .bf16⟩
  | .hbm, ⟨53, _⟩ => ⟨S1024x3072, .bf16⟩
  | .hbm, ⟨54, _⟩ => ⟨S1x1x1x3072, .f32⟩
  | .hbm, ⟨55, _⟩ => ⟨S1x3072, .f32⟩
  | .hbm, ⟨56, _⟩ => ⟨S1x1x1x3072, .f32⟩
  | .hbm, ⟨57, _⟩ => ⟨S1x3072, .f32⟩
  | .hbm, ⟨58, _⟩ => ⟨S1x16x1024, .f32⟩
  | .hbm, ⟨59, _⟩ => ⟨S16x1024, .f32⟩
  | .hbm, ⟨60, _⟩ => ⟨S8192x1024, .f32⟩
  | .hbm, ⟨61, _⟩ => ⟨S16x1024, .f32⟩
  | .hbm, ⟨62, _⟩ => ⟨S16x1x1024, .f32⟩
  | .hbm, ⟨63, _⟩ => ⟨S16x1x1024, .f32⟩
  | .hbm, ⟨64, _⟩ => ⟨S16x2x1024, .f32⟩
  | .local _ .vmem, ⟨0, _⟩ => ⟨S256x1024, .bf16⟩
  | .local _ .vmem, ⟨1, _⟩ => ⟨S256x1024, .bf16⟩
  | .local _ .vmem, ⟨2, _⟩ => ⟨S16x16x1, .f32⟩
  | .local _ .vmem, ⟨3, _⟩ => ⟨S16x16x1, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S16x1024, .f32⟩
  | .local _ .vmem, ⟨9, _⟩ => ⟨S256x1024, .bf16⟩
  | .local _ .vmem, ⟨10, _⟩ => ⟨S256x1024, .bf16⟩
  | .local _ .vmem, ⟨11, _⟩ => ⟨S16x1024, .f32⟩
  | .local _ .vmem, ⟨12, _⟩ => ⟨S16x1024, .f32⟩
  | .local _ .vmem, ⟨13, _⟩ => ⟨S256x3072, .f32⟩
  | .local _ .vmem, ⟨14, _⟩ => ⟨S256x1024, .bf16⟩
  | .local _ .vmem, ⟨15, _⟩ => ⟨S256x1024, .bf16⟩
  | .local _ .vmem, ⟨16, _⟩ => ⟨S16x16x1, .f32⟩
  | .local _ .vmem, ⟨17, _⟩ => ⟨S16x16x1, .f32⟩
  | .local _ .vmem, ⟨18, _⟩ => ⟨S1024x3072, .bf16⟩
  | .local _ .vmem, ⟨19, _⟩ => ⟨S1024x3072, .bf16⟩
  | .local _ .vmem, ⟨20, _⟩ => ⟨S1x3072, .f32⟩
  | .local _ .vmem, ⟨21, _⟩ => ⟨S1x3072, .f32⟩
  | .local _ .vmem, ⟨22, _⟩ => ⟨S16x1024, .f32⟩
  | .local _ .vmem, ⟨23, _⟩ => ⟨S256x1024, .f32⟩
  | .local _ .vmem, ⟨24, _⟩ => ⟨S256x1024, .f32⟩
  | .local _ .vmem, ⟨25, _⟩ => ⟨S16x1024, .f32⟩
  | .local _ .vmem, ⟨26, _⟩ => ⟨S16x1024, .f32⟩
  | .local _ .vmem, ⟨27, _⟩ => ⟨S256x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48_0 : Ref sig .tc := ⟨.hbm, 60, rfl⟩
abbrev main_v48_1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x3072 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S16x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S8192x1024 : Shape := ⟨2, ![8192, 1024]⟩
abbrev S16x2x1024 : Shape := ⟨3, ![16, 2, 1024]⟩
abbrev S8192x1 : Shape := ⟨2, ![8192, 1]⟩
abbrev S3072x1024 : Shape := ⟨2, ![3072, 1024]⟩
abbrev S3072 : Shape := ⟨1, ![3072]⟩
abbrev S2x16x1024 : Shape := ⟨3, ![2, 16, 1024]⟩
abbrev S512x16x1024 : Shape := ⟨3, ![512, 16, 1024]⟩
abbrev S512x16x1 : Shape := ⟨3, ![512, 16, 1]⟩
abbrev S_ : Shape := ⟨0, ![]⟩
abbrev S1x16x1024 : Shape := ⟨3, ![1, 16, 1024]⟩
abbrev S16x1024 : Shape := ⟨2, ![16, 1024]⟩
abbrev S1x16x1 : Shape := ⟨3, ![1, 16, 1]⟩
abbrev S16x1 : Shape := ⟨2, ![16, 1]⟩
abbrev S1024x3072 : Shape := ⟨2, ![1024, 3072]⟩
abbrev S16x3072 : Shape := ⟨2, ![16, 3072]⟩
abbrev S1x3072 : Shape := ⟨2, ![1, 3072]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S16x2x1024, .f32⟩
  | 2 => ⟨S8192x1, .f32⟩
  | 3 => ⟨S3072x1024, .f32⟩
  | 4 => ⟨S3072x1024, .f32⟩
  | 5 => ⟨S3072, .f32⟩
  | 6 => ⟨S3072, .f32⟩
  | 7 => ⟨S3072x1024, .f32⟩
  | 8 => ⟨S3072x1024, .f32⟩
  | 9 => ⟨S3072, .f32⟩
  | 10 => ⟨S3072, .f32⟩
  | 11 => ⟨S2x16x1024, .f32⟩
  | 12 => ⟨S512x16x1024, .f32⟩
  | 13 => ⟨S512x16x1, .f32⟩
  | 14 => ⟨S_, .f32⟩
  | 15 => ⟨S512x16x1024, .f32⟩
  | 16 => ⟨S_, .i32⟩
  | 17 => ⟨S512x16x1024, .f32⟩
  | 18 => ⟨S512x16x1, .f32⟩
  | 19 => ⟨S3072x1024, .f32⟩
  | 20 => ⟨S3072, .f32⟩
  | 21 => ⟨S3072x1024, .f32⟩
  | 22 => ⟨S3072, .f32⟩
  | 23 => ⟨S3072x1024, .f32⟩
  | 24 => ⟨S3072, .f32⟩
  | 25 => ⟨S3072x1024, .f32⟩
  | 26 => ⟨S3072, .f32⟩
  | 27 => ⟨S_, .i32⟩
  | 28 => ⟨S2x16x1024, .f32⟩
  | 29 => ⟨S512x16x1024, .f32⟩
  | 30 => ⟨S_, .i32⟩
  | 31 => ⟨S_, .i1⟩
  | 32 => ⟨S_, .i32⟩
  | 33 => ⟨S_, .i32⟩
  | 34 => ⟨S1x16x1024, .f32⟩
  | 35 => ⟨S16x1024, .f32⟩
  | 36 => ⟨S_, .i32⟩
  | 37 => ⟨S_, .i32⟩
  | 38 => ⟨S1x16x1, .f32⟩
  | 39 => ⟨S16x1, .f32⟩
  | 40 => ⟨S1x16x1, .f32⟩
  | 41 => ⟨S2x16x1024, .f32⟩
  | 42 => ⟨S2x16x1024, .f32⟩
  | 43 => ⟨S1x16x1024, .f32⟩
  | 44 => ⟨S16x1024, .f32⟩
  | 45 => ⟨S1024x3072, .f32⟩
  | 46 => ⟨S16x3072, .f32⟩
  | 47 => ⟨S1x3072, .f32⟩
  | 48 => ⟨S16x3072, .f32⟩
  | 49 => ⟨S16x3072, .f32⟩
  | 50 => ⟨S1024x3072, .f32⟩
  | 51 => ⟨S16x3072, .f32⟩
  | 52 => ⟨S1x3072, .f32⟩
  | 53 => ⟨S16x3072, .f32⟩
  | 54 => ⟨S16x3072, .f32⟩
  | 55 => ⟨S16x1024, .f32⟩
  | 56 => ⟨S16x1024, .f32⟩
  | 57 => ⟨S16x1024, .f32⟩
  | 58 => ⟨S16x1024, .f32⟩
  | 59 => ⟨S16x1024, .f32⟩
  | 60 => ⟨S16x1024, .f32⟩
  | 61 => ⟨S16x1024, .f32⟩
  | 62 => ⟨S16x1024, .f32⟩
  | 63 => ⟨S16x1024, .f32⟩
  | 64 => ⟨S_, .f32⟩
  | 65 => ⟨S16x1024, .f32⟩
  | 66 => ⟨S16x1024, .f32⟩
  | 67 => ⟨S_, .f32⟩
  | 68 => ⟨S16x1024, .f32⟩
  | 69 => ⟨S16x1024, .f32⟩
  | 70 => ⟨S16x1024, .f32⟩
  | 71 => ⟨S16x1024, .f32⟩
  | 72 => ⟨S16x1024, .f32⟩
  | 73 => ⟨S_, .f32⟩
  | 74 => ⟨S16x1024, .f32⟩
  | 75 => ⟨S16x1024, .f32⟩
  | 76 => ⟨S_, .f32⟩
  | 77 => ⟨S16x1024, .f32⟩
  | 78 => ⟨S16x1024, .f32⟩
  | 79 => ⟨S16x1024, .f32⟩
  | 80 => ⟨S16x1024, .f32⟩
  | 81 => ⟨S16x1024, .f32⟩
  | 82 => ⟨S_, .f32⟩
  | 83 => ⟨S16x1024, .f32⟩
  | 84 => ⟨S16x1024, .f32⟩
  | 85 => ⟨S16x1024, .f32⟩
  | 86 => ⟨S16x1024, .f32⟩
  | 87 => ⟨S16x1024, .f32⟩
  | 88 => ⟨S1x16x1024, .f32⟩
  | 89 => ⟨S16x1024, .f32⟩
  | 90 => ⟨S1024x3072, .f32⟩
  | 91 => ⟨S16x3072, .f32⟩
  | 92 => ⟨S1x3072, .f32⟩
  | 93 => ⟨S16x3072, .f32⟩
  | 94 => ⟨S16x3072, .f32⟩
  | 95 => ⟨S1024x3072, .f32⟩
  | 96 => ⟨S16x3072, .f32⟩
  | 97 => ⟨S1x3072, .f32⟩
  | 98 => ⟨S16x3072, .f32⟩
  | 99 => ⟨S16x3072, .f32⟩
  | 100 => ⟨S16x1024, .f32⟩
  | 101 => ⟨S16x1024, .f32⟩
  | 102 => ⟨S16x1024, .f32⟩
  | 103 => ⟨S16x1024, .f32⟩
  | 104 => ⟨S16x1024, .f32⟩
  | 105 => ⟨S16x1024, .f32⟩
  | 106 => ⟨S16x1024, .f32⟩
  | 107 => ⟨S16x1024, .f32⟩
  | 108 => ⟨S16x1024, .f32⟩
  | 109 => ⟨S_, .f32⟩
  | 110 => ⟨S16x1024, .f32⟩
  | 111 => ⟨S16x1024, .f32⟩
  | 112 => ⟨S_, .f32⟩
  | 113 => ⟨S16x1024, .f32⟩
  | 114 => ⟨S16x1024, .f32⟩
  | 115 => ⟨S16x1024, .f32⟩
  | 116 => ⟨S16x1024, .f32⟩
  | 117 => ⟨S16x1024, .f32⟩
  | 118 => ⟨S_, .f32⟩
  | 119 => ⟨S16x1024, .f32⟩
  | 120 => ⟨S16x1024, .f32⟩
  | 121 => ⟨S_, .f32⟩
  | 122 => ⟨S16x1024, .f32⟩
  | 123 => ⟨S16x1024, .f32⟩
  | 124 => ⟨S16x1024, .f32⟩
  | 125 => ⟨S16x1024, .f32⟩
  | 126 => ⟨S16x1024, .f32⟩
  | 127 => ⟨S_, .f32⟩
  | _ => ⟨S8192x1024, .f32⟩

abbrev hbmTy0_1 (i : Nat) : BufTy := match i % 128 with
  | 0 => ⟨S16x1024, .f32⟩
  | 1 => ⟨S16x1024, .f32⟩
  | 2 => ⟨S16x1024, .f32⟩
  | 3 => ⟨S16x1024, .f32⟩
  | 4 => ⟨S16x1024, .f32⟩
  | 5 => ⟨S1x16x1024, .f32⟩
  | 6 => ⟨S1x16x1024, .f32⟩
  | 7 => ⟨S2x16x1024, .f32⟩
  | 8 => ⟨S1x16x1024, .f32⟩
  | 9 => ⟨S_, .i32⟩
  | 10 => ⟨S_, .i32⟩
  | 11 => ⟨S512x16x1024, .f32⟩
  | 12 => ⟨S_, .i32⟩
  | 13 => ⟨S_, .i32⟩
  | 14 => ⟨S8192x1024, .f32⟩
  | 15 => ⟨S16x2x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_c : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev main_v4_6 : Ref sig .tc := ⟨.hbm, 23, rfl⟩
abbrev main_v4_7 : Ref sig .tc := ⟨.hbm, 24, rfl⟩
abbrev main_v4_8 : Ref sig .tc := ⟨.hbm, 25, rfl⟩
abbrev main_v4_9 : Ref sig .tc := ⟨.hbm, 26, rfl⟩
abbrev main_v4_10 : Ref sig .tc := ⟨.hbm, 27, rfl⟩
abbrev main_v4_11 : Ref sig .tc := ⟨.hbm, 28, rfl⟩
abbrev main_v4_12 : Ref sig .tc := ⟨.hbm, 29, rfl⟩
abbrev main_while0c_c_12 : Ref sig .tc := ⟨.hbm, 30, rfl⟩
abbrev main_while0c_v7 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v7 : Ref sig .tc := ⟨.hbm, 35, rfl⟩
abbrev main_while0b_call1_c : Ref sig .tc := ⟨.hbm, 36, rfl⟩
abbrev main_while0b_call1_c_0 : Ref sig .tc := ⟨.hbm, 37, rfl⟩
abbrev main_while0b_call1_v0 : Ref sig .tc := ⟨.hbm, 38, rfl⟩
abbrev main_while0b_v8 : Ref sig .tc := ⟨.hbm, 39, rfl⟩
abbrev main_while0b_v9 : Ref sig .tc := ⟨.hbm, 40, rfl⟩
abbrev main_while0b_v10 : Ref sig .tc := ⟨.hbm, 41, rfl⟩
abbrev main_while0b_v11 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_cst_12 : Ref sig .tc := ⟨.hbm, 64, rfl⟩
abbrev main_while0b_v33 : Ref sig .tc := ⟨.hbm, 65, rfl⟩
abbrev main_while0b_v34 : Ref sig .tc := ⟨.hbm, 66, rfl⟩
abbrev main_while0b_cst_13 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_cst_14 : Ref sig .tc := ⟨.hbm, 73, rfl⟩
abbrev main_while0b_v40 : Ref sig .tc := ⟨.hbm, 74, rfl⟩
abbrev main_while0b_v41 : Ref sig .tc := ⟨.hbm, 75, rfl⟩
abbrev main_while0b_cst_15 : Ref sig .tc := ⟨.hbm, 76, rfl⟩
abbrev main_while0b_v42 : Ref sig .tc := ⟨.hbm, 77, rfl⟩
abbrev main_while0b_v43 : Ref sig .tc := ⟨.hbm, 78, rfl⟩
abbrev main_while0b_v44 : Ref sig .tc := ⟨.hbm, 79, rfl⟩
abbrev main_while0b_v45 : Ref sig .tc := ⟨.hbm, 80, rfl⟩
abbrev main_while0b_v46 : Ref sig .tc := ⟨.hbm, 81, rfl⟩
abbrev main_while0b_cst_16 : Ref sig .tc := ⟨.hbm, 82, rfl⟩
abbrev main_while0b_v47 : Ref sig .tc := ⟨.hbm, 83, rfl⟩
abbrev main_while0b_v48 : Ref sig .tc := ⟨.hbm, 84, rfl⟩
abbrev main_while0b_v49 : Ref sig .tc := ⟨.hbm, 85, rfl⟩
abbrev main_while0b_v50 : Ref sig .tc := ⟨.hbm, 86, rfl⟩
abbrev main_while0b_v51 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_cst_17 : Ref sig .tc := ⟨.hbm, 109, rfl⟩
abbrev main_while0b_v73 : Ref sig .tc := ⟨.hbm, 110, rfl⟩
abbrev main_while0b_v74 : Ref sig .tc := ⟨.hbm, 111, rfl⟩
abbrev main_while0b_cst_18 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_cst_19 : Ref sig .tc := ⟨.hbm, 118, rfl⟩
abbrev main_while0b_v80 : Ref sig .tc := ⟨.hbm, 119, rfl⟩
abbrev main_while0b_v81 : Ref sig .tc := ⟨.hbm, 120, rfl⟩
abbrev main_while0b_cst_20 : Ref sig .tc := ⟨.hbm, 121, rfl⟩
abbrev main_while0b_v82 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_cst_21 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_call2_v0 : Ref sig .tc := ⟨.hbm, 136, rfl⟩
abbrev main_while0b_call2_c : Ref sig .tc := ⟨.hbm, 137, rfl⟩
abbrev main_while0b_call2_c_0 : Ref sig .tc := ⟨.hbm, 138, rfl⟩
abbrev main_while0b_v95 : Ref sig .tc := ⟨.hbm, 139, rfl⟩
abbrev main_while0b_c_22 : Ref sig .tc := ⟨.hbm, 140, rfl⟩
abbrev main_while0b_v96 : Ref sig .tc := ⟨.hbm, 141, rfl⟩
abbrev main_v5 : Ref sig .tc := ⟨.hbm, 142, rfl⟩
abbrev main_v6 : Ref sig .tc := ⟨.hbm, 143, rfl⟩

abbrev nD : Nat := 1
abbrev τ : Topo := Topo.v7x

variable {F : FTy → Type} [FloatOps F]

abbrev main_while0_count : Scf.Loop 32 := ⟨0#32, 512#32, 1#32⟩
-- ==== Proof.Cell.lean ====
/- One step of the recurrent cell as the kernel computes it on a block of sixteen rows, and its iteration over the
   sixteen steps of one block. The two layers run the same body, so both use these definitions. -/
module

public import proofs.«01_k».proof.Proof.Gen.KernelIdeal

@[expose] public section

noncomputable section

namespace Cert.Gru

open Idealize.ShloMosaic Cert.KernelIdeal Cert.KernelIdeal.Facts₀

variable {F : FTy → Type} [FloatOps F]

/-- The input half of the gates for a whole block: rows times the input weights, plus the bias. -/
def gatesIn (x : Vec F S256x1024 .bf16) (wi : Vec F S1024x3072 .bf16) (bi : Vec F S1x3072 .f32) : FVec F S256x3072 .f32 :=
  addf (matmul dot_S256x1024_S1024x3072_S256x3072_1_0_0_1_n_n none x wi (constant S256x3072 .f32 0x00000000#32))
    (broadcastTo S256x3072 bi broadcasts_S1x3072_S256x3072)

/-- The state with each row multiplied by its mask. -/
def masked (h : FVec F S16x1024 .f32) (k : Vec F S1x16x1 .f32) : FVec F S16x1024 .f32 :=
  mulf h (broadcastTo S16x1024 (shapeCast S16x1 k shapeCasts_S1x16x1_S16x1) broadcasts_S16x1_S16x1024)

/-- The state half of the gates: the masked state times the recurrent weights, plus the bias. -/
def gatesState (wh : Vec F S1024x3072 .bf16) (bh : Vec F S1x3072 .f32) (h : FVec F S16x1024 .f32) : FVec F S16x3072 .f32 :=
  addf (matmul dot_S16x1024_S1024x3072_S16x3072_1_0_0_1_n_n none (truncf .bf16 h bitsLt_bf16_f32) wh
      (constant S16x3072 .f32 0x00000000#32))
    (broadcastTo S16x3072 bh broadcasts_S1x3072_S16x3072)

/-- The new state from the two halves `a` (input) and `b` (state) of the gates and the masked state. -/
def combine (a b : FVec F S16x3072 .f32) (h : FVec F S16x1024 .f32) : FVec F S16x1024 .f32 :=
  have r := logistic (addf (extractStridedSlice S16x1024 ![0, 0] a slices_S16x3072_o0_0_S16x1024)
    (extractStridedSlice S16x1024 ![0, 0] b slices_S16x3072_o0_0_S16x1024))
  have z := logistic (addf (extractStridedSlice S16x1024 ![0, 1024] a slices_S16x3072_o0_1024_S16x1024)
    (extractStridedSlice S16x1024 ![0, 1024] b slices_S16x3072_o0_1024_S16x1024))
  have n := tanh (addf (extractStridedSlice S16x1024 ![0, 2048] a slices_S16x3072_o0_2048_S16x1024)
    (mulf r (extractStridedSlice S16x1024 ![0, 2048] b slices_S16x3072_o0_2048_S16x1024)))
  addf (mulf (subf (broadcast S16x1024 (Scalar.ofBits .f32 0x3F800000#32)) z) n) (mulf z h)

/-- One step: mask the state, form both halves of the gates, combine. -/
def cell (wh : Vec F S1024x3072 .bf16) (bh : Vec F S1x3072 .f32) (h : FVec F S16x1024 .f32) (k : Vec F S1x16x1 .f32)
    (a : FVec F S16x3072 .f32) : FVec F S16x1024 .f32 :=
  combine a (gatesState wh bh (masked h k)) (masked h k)

/-- The masks of step `b` of a block. -/
def maskRow (k : Vec F S16x16x1 .f32) (b : ℕ) : Vec F S1x16x1 .f32 := fun j =>
  k (fun | 0 => ⟨b % 16, Nat.mod_lt _ (by decide)⟩ | 1 => j 1 | 2 => j 2)

/-- Sixteen rows of a block of gates, from row `o` on. -/
def gateRows (g : FVec F S256x3072 .f32) (o : ℕ) : FVec F S16x3072 .f32 := fun j =>
  g (fun | 0 => ⟨(o + (j 0).val) % 256, Nat.mod_lt _ (by decide)⟩ | 1 => j 1)

/-- The state after `b` steps, step `n` taking the masks `ks n` and the input gates `gs n`, from the state `h`. -/
def steps (wh : Vec F S1024x3072 .bf16) (bh : Vec F S1x3072 .f32) (ks : ℕ → Vec F S1x16x1 .f32) (gs : ℕ → FVec F S16x3072 .f32)
    (h : FVec F S16x1024 .f32) : ℕ → FVec F S16x1024 .f32
  | 0 => h
  | b + 1 => cell wh bh (steps wh bh ks gs h b) (ks b) (gs b)

/-- The state after `b` steps of a block, from the state `h` the block starts with. -/
def stateAt (x : Vec F S256x1024 .bf16) (k : Vec F S16x16x1 .f32) (wi wh : Vec F S1024x3072 .bf16) (bi bh : Vec F S1x3072 .f32)
    (h : FVec F S16x1024 .f32) : ℕ → FVec F S16x1024 .f32 :=
  steps wh bh (maskRow k) (fun b => gateRows (gatesIn x wi bi) (16 * b)) h

/-- Sixteen blocks of sixteen rows, one below the other. -/
def rows16 {e : EltTy} (w : ℕ → Vec F S16x1024 e) : Vec F S256x1024 e := fun y =>
  w ((y 0).val / 16) (fun | 0 => ⟨(y 0).val % 16, Nat.mod_lt _ (by decide)⟩ | 1 => y 1)

end Cert.Gru

end
-- ==== Proof.Stores.lean ====
/- What the loads and stores of a block mean: a load of a row block of a buffer is that row block, and sixteen stores of
   sixteen rows leave the rows one below the other. -/
module

public import proofs.«01_k».proof.Proof.Cell
public import Idealize.ShloMosaic.Lib.Pipeline.FrameBody
public import Idealize.ShloMosaic.Lib.Pipeline.Value
public import Idealize.ShloMosaic.Lib.Ring

@[expose] public section

set_option maxRecDepth 16384

noncomputable section

namespace Cert.Gru

open Idealize.ShloMosaic Idealize.ShloMosaic.Tactic Cert.KernelIdeal

variable {F : FTy → Type} [FloatOps F]

/-- Row block `b` of sixteen rows lies inside a buffer of 256 rows. -/
theorem rows_inb (n b : ℕ) : ∀ a : Fin 2, (![16 * (b % 16), 0] : Fin 2 → ℕ) a + (![16, n] : Fin 2 → ℕ) a ≤ (![256, n] : Fin 2 → ℕ) a := by
  have := Nat.mod_lt b (y := 16) (by decide)
  exact Fin.forall_fin_two.mpr ⟨by show 16 * (b % 16) + 16 ≤ 256; omega, by show 0 + n ≤ n; omega⟩

/-- Mask `b` lies inside the block's sixteen masks. -/
theorem mask_inb (b : ℕ) : ∀ a : Fin 3, (![b % 16, 0, 0] : Fin 3 → ℕ) a + S1x16x1.size a ≤ S16x16x1.size a := by
  have := Nat.mod_lt b (y := 16) (by decide)
  intro a
  match a with
  | 0 => show b % 16 + 1 ≤ 16; omega
  | 1 => exact Nat.le_refl 16
  | 2 => exact Nat.le_refl 1

theorem zero2 : (![0, 0] : Fin 2 → ℕ) = fun _ => 0 := by funext a; match a with | 0 => rfl | 1 => rfl

/-- A load of the whole of a buffer held at `X` is `X`. -/
theorem load_full {sp : Space} {d : Fin 2 → ℕ} {e : EltTy} (r : Memref sig .tc sp (⟨2, d⟩ : Shape) e) (hr : r.IsWhole)
    (X : Vec F (⟨2, d⟩ : Shape) e) (inb : ∀ a : Fin 2, (![0, 0] : Fin 2 → ℕ) a + d a ≤ d a) :
    r.view.readAt (Elt F) (Rect.unit (s := (⟨2, d⟩ : Shape)) ![0, 0] d inb).toLoadRect (hr.unread X) = X := by
  rw [View.readAt_eq_ld, hr.read_unread]
  exact View.ld_unit_zero zero2 inb X

/-- A load of the whole of a buffer just filled with `X` is `X`. -/
theorem load_filled {sp : Space} {d : Fin 2 → ℕ} {e : EltTy} (r : Memref sig .tc sp (⟨2, d⟩ : Shape) e)
    (X : Vec F (⟨2, d⟩ : Shape) e) (inb : ∀ a : Fin 2, (![0, 0] : Fin 2 → ℕ) a + d a ≤ d a) :
    r.view.readCov (Val := Elt F) [⟨Rect.unit (s := (⟨2, d⟩ : Shape)) ![0, 0] d inb, X⟩]
      (Rect.unit (s := (⟨2, d⟩ : Shape)) ![0, 0] d inb).toLoadRect = X :=
  View.readCov_unit_zero r.view zero2 inb X

/-- What a store over the whole of a buffer leaves, whatever was stored before. -/
theorem stored_full {sp : Space} {d : Fin 2 → ℕ} {e : EltTy} (v : View sig .tc sp (⟨2, d⟩ : Shape) e) (f : v.ty.Contents (Elt F))
    (X : Vec F (⟨2, d⟩ : Shape) e) (inb : ∀ a : Fin 2, (![0, 0] : Fin 2 → ℕ) a + d a ≤ d a)
    (L : List (View.Piece (Elt F) (⟨2, d⟩ : Shape) e)) :
    v.read (Elt F) (v.writes (Elt F) f (⟨Rect.unit (s := (⟨2, d⟩ : Shape)) ![0, 0] d inb, X⟩ :: L)) = X := by
  rw [View.read_writes_eq_canon _ _ _ fun y => ⟨_, List.mem_cons_self, View.mem_set_unit_zero zero2 inb y⟩]
  exact View.canon_cons_unit_zero zero2 inb X L

/-- A load of the masks of step `o` of the block's masks. -/
theorem load_mask {sp : Space} (r : Memref sig .tc sp S16x16x1 .f32) (hr : r.IsWhole) (k : Vec F S16x16x1 .f32) (o : ℕ)
    (inb : ∀ a, (![o, 0, 0] : Fin 3 → ℕ) a + (![1, 16, 1] : Fin 3 → ℕ) a ≤ S16x16x1.size a) :
    r.view.readAt (Elt F) (Rect.unit (s := S16x16x1) ![o, 0, 0] ![1, 16, 1] inb).toLoadRect (hr.unread k) = maskRow k o := by
  have ho : o + 1 ≤ 16 := inb 0
  rw [View.readAt_eq_ld, hr.read_unread]
  funext j
  unfold maskRow
  refine congrArg k (funext fun a => Fin.ext ?_)
  match a with
  | 0 =>
    have h : (j 0).val < 1 := (j 0).isLt
    show o + 1 * (j 0).val = o % 16
    omega
  | 1 => show 0 + 1 * (j 1).val = (j 1).val; omega
  | 2 => show 0 + 1 * (j 2).val = (j 2).val; omega

/-- Reading 256 rows through the sixteen rows from row `o` on. -/
theorem row_block (g : FVec F S256x3072 .f32) (o : ℕ)
    (inb : ∀ a, (![o, 0] : Fin 2 → ℕ) a + (![16, 3072] : Fin 2 → ℕ) a ≤ S256x3072.size a) :
    (fun j => g ((Rect.unit (s := S256x3072) ![o, 0] ![16, 3072] inb).toLoadRect.idx j)) = gateRows g o := by
  have ho : o + 16 ≤ 256 := inb 0
  funext j
  unfold gateRows
  refine congrArg g (funext fun a => Fin.ext ?_)
  match a with
  | 0 =>
    have h : (j 0).val < 16 := (j 0).isLt
    show o + 1 * (j 0).val = (o + (j 0).val) % 256
    omega
  | 1 => show 0 + 1 * (j 1).val = (j 1).val; omega

/-- A load of sixteen rows of the gates just stored. -/
theorem load_gates {sp : Space} (r : Memref sig .tc sp S256x3072 .f32) (g : FVec F S256x3072 .f32)
    (inb : ∀ a : Fin 2, (![0, 0] : Fin 2 → ℕ) a + (![256, 3072] : Fin 2 → ℕ) a ≤ S256x3072.size a) (o : ℕ)
    (inb' : ∀ a, (![o, 0] : Fin 2 → ℕ) a + (![16, 3072] : Fin 2 → ℕ) a ≤ S256x3072.size a) :
    r.view.readCov (Val := Elt F) [⟨Rect.unit (s := S256x3072) ![0, 0] ![256, 3072] inb, g⟩]
      (Rect.unit (s := S256x3072) ![o, 0] ![16, 3072] inb').toLoadRect = gateRows g o := by
  have e := View.canon_cons_unit_zero (Val := Elt F) (e := .f32) (S := S256x3072) zero2 inb g []
  refine (View.readCov_eq_canon' r.view _ _).trans ?_
  rw [e]
  exact row_block g o inb'

/-- The stores of row blocks `0`, …, `n - 1`, the last first. -/
def pieces {e : EltTy} (w : ℕ → Vec F S16x1024 e) : ℕ → List (View.Piece (Elt F) S256x1024 e)
  | 0 => []
  | n + 1 => ⟨Rect.unit (s := S256x1024) ![16 * (n % 16), 0] S16x1024.size (rows_inb 1024 n), w n⟩ :: pieces w n

theorem pieces_agree {e : EltTy} (w : ℕ → Vec F S16x1024 e) : ∀ n, n ≤ 16 → ∀ p ∈ pieces w n, ∀ x, p.2 x = rows16 w (p.1.emb x)
  | 0, _ => fun p hp => absurd hp List.not_mem_nil
  | n + 1, hn => fun p hp => by
    rcases List.mem_cons.mp hp with rfl | hp
    · intro x
      have h0 : (x 0).val < 16 := (x 0).isLt
      have hm : n % 16 = n := Nat.mod_eq_of_lt (by omega)
      have e0 : (((Rect.unit (s := S256x1024) ![16 * (n % 16), 0] S16x1024.size (rows_inb 1024 n)).emb x) 0).val = 16 * n + (x 0).val := by
        show 16 * (n % 16) + 1 * (x 0).val = _
        omega
      have e1 : (((Rect.unit (s := S256x1024) ![16 * (n % 16), 0] S16x1024.size (rows_inb 1024 n)).emb x) 1).val = (x 1).val := by
        show 0 + 1 * (x 1).val = _
        omega
      unfold rows16
      have hd : (((Rect.unit (s := S256x1024) ![16 * (n % 16), 0] S16x1024.size (rows_inb 1024 n)).emb x) 0).val / 16 = n := by
        rw [e0]; omega
      rw [hd]
      refine congrArg (w n) (funext fun a => Fin.ext ?_)
      match a with
      | 0 => show (x 0).val = (((Rect.unit (s := S256x1024) ![16 * (n % 16), 0] S16x1024.size (rows_inb 1024 n)).emb x) 0).val % 16
             rw [e0]; omega
      | 1 => exact e1.symm
    · exact pieces_agree w n (by omega) p hp

theorem pieces_cover {e : EltTy} (w : ℕ → Vec F S16x1024 e) : ∀ y, ∃ p ∈ pieces w 16, y ∈ p.1.set :=
  View.cover_of_tiledL (pieces w 16) S16x1024.size (by sl_kernel_rfl)

/-- What the sixteen stores leave: the row blocks one below the other. -/
theorem canon_pieces {e : EltTy} (w w' : ℕ → Vec F S16x1024 e) (h : ∀ n, w n = w' n) : View.canon (pieces w 16) = rows16 w' := by
  obtain rfl : w = w' := funext h
  exact funext fun y => View.canon_apply_of_pieces (rows16 w) (pieces w 16) (pieces_agree w 16 (Nat.le_refl _)) y (pieces_cover w y)

/-- What sixteen stores of row blocks leave in a buffer, whatever it held: the row blocks one below the other. -/
theorem rows_left {sp : Space} {e : EltTy} (v : View sig .tc sp S256x1024 e) (f : v.ty.Contents (Elt F)) (w : ℕ → Vec F S16x1024 e)
    (L : List (View.Piece (Elt F) S256x1024 e)) (hL : L = pieces w 16) :
    v.read (Elt F) (v.writes (Elt F) f L) = rows16 w := by
  subst hL
  exact (View.read_writes_eq_canon v f _ (pieces_cover w)).trans (canon_pieces w w fun _ => rfl)

/-- A product of the state with the masks is the masked state. -/
theorem fold_masked (h : FVec F S16x1024 .f32) (k : Vec F S1x16x1 .f32) :
    mulf h (broadcastTo S16x1024 (shapeCast S16x1 k Facts₀.shapeCasts_S1x16x1_S16x1) Facts₀.broadcasts_S16x1_S16x1024) = masked h k := rfl

/-- The state half of the gates, written out. -/
theorem fold_gates (wh : Vec F S1024x3072 .bf16) (bh : Vec F S1x3072 .f32) (h : FVec F S16x1024 .f32) :
    addf (matmul dot_S16x1024_S1024x3072_S16x3072_1_0_0_1_n_n none (truncf .bf16 h Facts₀.bitsLt_bf16_f32) wh
      (constant S16x3072 .f32 0x00000000#32)) (broadcastTo S16x3072 bh Facts₀.broadcasts_S1x3072_S16x3072) = gatesState wh bh h := rfl

/-- The input half of the gates, written out. -/
theorem fold_input (x : Vec F S256x1024 .bf16) (wi : Vec F S1024x3072 .bf16) (bi : Vec F S1x3072 .f32) :
    addf (matmul dot_S256x1024_S1024x3072_S256x3072_1_0_0_1_n_n none x wi (constant S256x3072 .f32 0x00000000#32))
      (broadcastTo S256x3072 bi Facts₀.broadcasts_S1x3072_S256x3072) = gatesIn x wi bi := rfl

/-- The combination of the gates into the new state, written out. -/
theorem fold_combine (a b : FVec F S16x3072 .f32) (h : FVec F S16x1024 .f32) :
    addf (mulf (subf (broadcast S16x1024 (Scalar.ofBits .f32 0x3F800000#32))
        (logistic (addf (extractStridedSlice S16x1024 ![0, 1024] a Facts₀.slices_S16x3072_o0_1024_S16x1024)
          (extractStridedSlice S16x1024 ![0, 1024] b Facts₀.slices_S16x3072_o0_1024_S16x1024))))
      (tanh (addf (extractStridedSlice S16x1024 ![0, 2048] a Facts₀.slices_S16x3072_o0_2048_S16x1024)
        (mulf (logistic (addf (extractStridedSlice S16x1024 ![0, 0] a Facts₀.slices_S16x3072_o0_0_S16x1024)
            (extractStridedSlice S16x1024 ![0, 0] b Facts₀.slices_S16x3072_o0_0_S16x1024)))
          (extractStridedSlice S16x1024 ![0, 2048] b Facts₀.slices_S16x3072_o0_2048_S16x1024)))))
      (mulf (logistic (addf (extractStridedSlice S16x1024 ![0, 1024] a Facts₀.slices_S16x3072_o0_1024_S16x1024)
          (extractStridedSlice S16x1024 ![0, 1024] b Facts₀.slices_S16x3072_o0_1024_S16x1024))) h) = combine a b h := rfl

/-- The step of the cell, from its parts. -/
theorem fold_cell (wh : Vec F S1024x3072 .bf16) (bh : Vec F S1x3072 .f32) (h : FVec F S16x1024 .f32) (k : Vec F S1x16x1 .f32)
    (a : FVec F S16x3072 .f32) : combine a (gatesState wh bh (masked h k)) (masked h k) = cell wh bh h k a := rfl

end Cert.Gru

end
-- ==== Proof.Point.lean ====
/- One grid point of a launch: what its body does to the staged blocks and to the carried state, stated once for both layers. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Cell
public import Idealize.ShloMosaic.Lib.Exec
public import Idealize.ShloMosaic.Lib.Pipeline.FrameBody
public import Idealize.ShloMosaic.Lib.WordCmp

@[expose] public section

set_option maxRecDepth 16384

noncomputable section

namespace Cert.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The test a body makes before it loads the initial state, at point `n`. -/
abbrev First (n : ℕ) : Prop := (Scalar.cmpi .ne (Scalar.extui (Scalar.cmpi .eq (BitVec.ofNat 32 n) 0#32)) 0#32) = 1#1

/-- The test holds at the first of the thirty-two points only. -/
theorem first_iff {n : ℕ} (hn : n < 32) : First n ↔ n = 0 := by
  have e : First n ↔ n % 32 = 0 := by
    rw [show First n = First (n % 32) by rw [Nat.mod_eq_of_lt hn]]
    unfold First
    word_cmp
  rw [e, Nat.mod_eq_of_lt hn]

variable {e : EltTy} (c : Dev nD) (prog : Prog (TpuEff nD τ sig (Elt F) Λ₀ .tc) PUnit)
  (a1 : Memref sig .tc .vmem S256x1024 .bf16) (a2 : Memref sig .tc .vmem S16x16x1 .f32) (a3 a4 : Memref sig .tc .vmem S1024x3072 .bf16)
  (a5 a6 : Memref sig .tc .vmem S1x3072 .f32) (a7 : Memref sig .tc .vmem S16x1024 .f32) (a8 : Memref sig .tc .vmem S256x1024 e)
  (a9 carried : Memref sig .tc .vmem S16x1024 .f32) (gates : Memref sig .tc .vmem S256x3072 .f32)
  (x : Vec F S256x1024 .bf16) (k : Vec F S16x16x1 .f32) (wi wh : Vec F S1024x3072 .bf16) (bi bh : Vec F S1x3072 .f32)
  (h0 : Vec F S16x1024 .f32) (y : Vec F S256x1024 e)

/-- The blocks a body reads: rows, masks, weights, biases, initial state. -/
def inputs : sProp 𝕄 :=
  iprop(owns (c : Thread nD τ) a1 fullShare x ∗ owns (c : Thread nD τ) a2 fullShare k
    ∗ owns (c : Thread nD τ) a3 fullShare wi ∗ owns (c : Thread nD τ) a4 fullShare wh
    ∗ owns (c : Thread nD τ) a5 fullShare bi ∗ owns (c : Thread nD τ) a6 fullShare bh ∗ owns (c : Thread nD τ) a7 fullShare h0)

/-- What a body does: with `hc` in the carried scratch it leaves the rows `y` in the output block, and the state after sixteen steps
    from `h` in the final-state block and in the carried scratch. -/
def PointSpec (hc h : Vec F S16x1024 .f32) : Prop :=
  ∀ (E : Set ℕ) (K : PUnit → sProp 𝕄),
    iprop(inputs c a1 a2 a3 a4 a5 a6 a7 x k wi wh bi bh h0
      ∗ (∃ d, owns (c : Thread nD τ) a8 fullShare d) ∗ (∃ d, owns (c : Thread nD τ) a9 fullShare d)
      ∗ owns (c : Thread nD τ) carried fullShare hc ∗ (∃ d, owns (c : Thread nD τ) gates fullShare d)
      ∗ (iprop(inputs c a1 a2 a3 a4 a5 a6 a7 x k wi wh bi bh h0
          ∗ owns (c : Thread nD τ) a8 fullShare y
          ∗ owns (c : Thread nD τ) a9 fullShare (stateAt x k wi wh bi bh h 16)
          ∗ owns (c : Thread nD τ) carried fullShare (stateAt x k wi wh bi bh h 16)
          ∗ (∃ d, owns (c : Thread nD τ) gates fullShare d)) -∗ K ⟨⟩))
      ⊢ wp frame (wpE (defs₀ (F := F)) Variants.none c none) E prog K

variable (S : ℕ → FVec F S16x1024 .f32)

/-- What holds between points, `S` the states: before the first point the carried scratch is at anything, before point `n + 1` at the
    state there. -/
def Inv (others : sProp 𝕄) (n : ℕ) : sProp 𝕄 :=
  iprop(((∃ d, ⌜n ≠ 0 → d = S n⌝ ∗ owns (c : Thread nD τ) carried fullShare d) ∗ (∃ d, owns (c : Thread nD τ) gates fullShare d))
    ∗ others ∗ ∃ r, prngReg c r)

/-- A point takes the invariant one state on. -/
theorem run_point (others : sProp 𝕄) (n : ℕ) (O : sProp 𝕄) (hS : S (n + 1) = stateAt x k wi wh bi bh (S n) 16)
    (hb : ∀ hc, (n ≠ 0 → hc = S n) → PointSpec c prog a1 a2 a3 a4 a5 a6 a7 a8 a9 carried gates x k wi wh bi bh h0 y hc (S n)) :
    iprop(Inv c carried gates S others n ∗ O ∗ inputs c a1 a2 a3 a4 a5 a6 a7 x k wi wh bi bh h0
        ∗ (∃ d, owns (c : Thread nD τ) a8 fullShare d) ∗ (∃ d, owns (c : Thread nD τ) a9 fullShare d))
      ⊢ wp frame (wpE (defs₀ (F := F)) Variants.none c none) Set.univ prog (fun _ =>
        iprop(Inv c carried gates S others (n + 1) ∗ O ∗ inputs c a1 a2 a3 a4 a5 a6 a7 x k wi wh bi bh h0
          ∗ owns (c : Thread nD τ) a8 fullShare y ∗ owns (c : Thread nD τ) a9 fullShare (S (n + 1)))) := by
  rw [hS]
  unfold Inv
  iintro ⟨⟨⟨⟨%hc, %hcc, HS0⟩, HS1⟩, Hg⟩, Ho, HI, H7, H8⟩
  iapply (hb hc hcc Set.univ _)
  isplitl [HI]; · iexact HI
  isplitl [H7]; · iexact H7
  isplitl [H8]; · iexact H8
  isplitl [HS0]; · iexact HS0
  isplitl [HS1]; · iexact HS1
  iintro ⟨HI, H7, H8, HS0, HS1⟩
  isplitl [HS0 HS1 Hg]
  · isplitl [HS0 HS1]
    · isplitl [HS0]
      · iexists _; isplitr
        swap; · iexact HS0
        ipureintro; exact fun _ => hS.symm
      iexact HS1
    iexact Hg
  isplitl [Ho]; · iexact Ho
  isplitl [HI]; · iexact HI
  isplitl [H7]; · iexact H7
  iexact H8

/-- A point's windows, each at what it finds, regrouped as the inputs and the two outputs, and back. -/
theorem point_windows {I O I' : sProp 𝕄} {y9 : Vec F S16x1024 .f32} {D8 D9 : Type} {f8 : D8 → Vec F S256x1024 e} {f9 : D9 → Vec F S16x1024 .f32}
    {D1 D2 D3 D4 D5 D6 D7 : Type}
    (h : iprop(I ∗ O ∗ inputs c a1 a2 a3 a4 a5 a6 a7 x k wi wh bi bh h0
        ∗ (∃ d, owns (c : Thread nD τ) a8 fullShare d) ∗ (∃ d, owns (c : Thread nD τ) a9 fullShare d))
      ⊢ wp frame (wpE (defs₀ (F := F)) Variants.none c none) Set.univ prog (fun _ =>
        iprop(I' ∗ O ∗ inputs c a1 a2 a3 a4 a5 a6 a7 x k wi wh bi bh h0
          ∗ owns (c : Thread nD τ) a8 fullShare y ∗ owns (c : Thread nD τ) a9 fullShare y9))) :
    iprop(I ∗ O ∗ (∃ _ : D1, owns (c : Thread nD τ) a1 fullShare x) ∗ (∃ _ : D2, owns (c : Thread nD τ) a2 fullShare k)
        ∗ (∃ _ : D3, owns (c : Thread nD τ) a3 fullShare wi) ∗ (∃ _ : D4, owns (c : Thread nD τ) a4 fullShare wh)
        ∗ (∃ _ : D5, owns (c : Thread nD τ) a5 fullShare bi) ∗ (∃ _ : D6, owns (c : Thread nD τ) a6 fullShare bh)
        ∗ (∃ _ : D7, owns (c : Thread nD τ) a7 fullShare h0)
        ∗ (∃ d, owns (c : Thread nD τ) a8 fullShare (f8 d)) ∗ (∃ d, owns (c : Thread nD τ) a9 fullShare (f9 d)))
      ⊢ wp frame (wpE (defs₀ (F := F)) Variants.none c none) Set.univ prog (fun _ =>
        iprop(I' ∗ O ∗ owns (c : Thread nD τ) a1 fullShare x ∗ owns (c : Thread nD τ) a2 fullShare k
          ∗ owns (c : Thread nD τ) a3 fullShare wi ∗ owns (c : Thread nD τ) a4 fullShare wh
          ∗ owns (c : Thread nD τ) a5 fullShare bi ∗ owns (c : Thread nD τ) a6 fullShare bh ∗ owns (c : Thread nD τ) a7 fullShare h0
          ∗ owns (c : Thread nD τ) a8 fullShare y ∗ owns (c : Thread nD τ) a9 fullShare y9)) := by
  refine triple_restated h rfl ?_ fun _ => ?_ <;> unfold inputs
  · iintro ⟨HI, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    isplitl [HI]; · iexact HI
    isplitl [Ho]; · iexact Ho
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    iexists _; iexact H9
  · iintro ⟨HI, Ho, ⟨H1, H2, H3, H4, H5, H6, H7⟩, H8, H9⟩
    isplitl [HI]; · iexact HI
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The scratches at any contents, and what rides along, make the first invariant. -/
theorem inv_enter (others : sProp 𝕄) :
    iprop((((∃ d, owns (c : Thread nD τ) carried fullShare d) ∗ (∃ d, owns (c : Thread nD τ) gates fullShare d)) ∗ others) ∗ ∃ r, prngReg c r)
      ⊢ Inv c carried gates S others 0 := by
  unfold Inv
  iintro ⟨⟨⟨⟨%d, H0⟩, H1⟩, Hr⟩, Hg⟩
  isplitl [H0 H1]
  · isplitl [H0]
    · iexists d; isplitr
      · ipureintro; exact fun h => absurd rfl h
      iexact H0
    iexact H1
  isplitl [Hr]; · iexact Hr
  iexact Hg

/-- Any invariant gives them back. -/
theorem inv_leave (others : sProp 𝕄) (n : ℕ) :
    Inv c carried gates S others n
      ⊢ iprop((((∃ d, owns (c : Thread nD τ) carried fullShare d) ∗ (∃ d, owns (c : Thread nD τ) gates fullShare d)) ∗ others) ∗ ∃ r, prngReg c r) := by
  unfold Inv
  iintro ⟨⟨⟨%d, -, H0⟩, H1⟩, Hr, Hg⟩
  isplitl [H0 H1 Hr]
  · isplitl [H0 H1]
    · isplitl [H0]; · iexists d; iexact H0
      iexact H1
    iexact Hr
  iexact Hg

end Cert.Gru

end
-- ==== Proof.Body0.lean ====
/- One point of the first layer: sixteen steps of the recurrent cell, run on the staged blocks. -/
module

public import proofs.«01_k».proof.Proof.Stores
public import proofs.«01_k».proof.Proof.Point

@[expose] public section

set_option maxRecDepth 16384

noncomputable section

namespace Cert.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows layer 0 writes for one block: the state after each of the sixteen steps. -/
def yBlock0 (x : Vec F S256x1024 .bf16) (k : Vec F S16x16x1 .f32) (wi wh : Vec F S1024x3072 .bf16) (bi bh : Vec F S1x3072 .f32)
    (h : FVec F S16x1024 .f32) : Vec F S256x1024 .bf16 :=
  rows16 fun b => truncf .bf16 (stateAt x k wi wh bi bh h (b + 1)) bitsLt_bf16_f32

set_option maxHeartbeats 2000000 in
/-- One point of layer 0: from the state `h` — the initial state at the first point, what the carried scratch holds
    at the others — the body leaves the sixteen states in the output block, and the last of them in the carried scratch
    and in the final-state block. -/
theorem body0 (c : Dev nD) (i : grid0.Coords) (arg1 : Memref sig .tc .vmem S256x1024 .bf16) (harg1 : arg1.IsWhole) (arg2 : Memref sig .tc .vmem S16x16x1 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x3072 .f32) (harg6 : arg6.IsWhole) (arg7 : Memref sig .tc .vmem S16x1024 .f32) (harg7 : arg7.IsWhole) (arg8 : Memref sig .tc .vmem S256x1024 .bf16) (harg8 : arg8.IsWhole) (arg9 : Memref sig .tc .vmem S16x1024 .f32) (harg9 : arg9.IsWhole) (arg10 : Memref sig .tc .vmem S16x1024 .f32) (harg10 : arg10.IsWhole) (arg11 : Memref sig .tc .vmem S256x3072 .f32) (harg11 : arg11.IsWhole)
    (x : Vec F S256x1024 .bf16) (k : Vec F S16x16x1 .f32) (wi wh : Vec F S1024x3072 .bf16) (bi bh : Vec F S1x3072 .f32)
    (h0 hc h : Vec F S16x1024 .f32) (hfirst : First (i 0).val → h = h0) (hnext : ¬First (i 0).val → h = hc) :
    PointSpec c (cc0_body i arg1 harg1 arg2 harg2 arg3 harg3 arg4 harg4 arg5 harg5 arg6 harg6 arg7 harg7 arg8 harg8 arg9 harg9 arg10 harg10 arg11 harg11)
      arg1 arg2 arg3 arg4 arg5 arg6 arg7 arg8 arg9 arg10 arg11 x k wi wh bi bh h0 (yBlock0 x k wi wh bi bh h) hc h := by
  intro E K
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨%d7, %f7, -, H7⟩, ⟨%d8, %f8, -, H8⟩, ⟨%f9, %hf9, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
  rcases Classical.em (First (i 0).val) with hi | hi
  on_goal 1 => obtain rfl := hfirst hi
  on_goal 2 => obtain rfl := hnext hi
  all_goals
    sl_exec (disch := first | sl_exact hi)
    sl_step
    iapply Hk
    isplitl [H0 H1 H2 H3 H4 H5 H6]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      iexists _; isplitr; · ipureintro; exact harg7.read_unread _
      iexact H6
    isplitl [H7]
    · iexists _; isplitr; swap; · iexact H7
      ipureintro
      refine rows_left _ _ _ _ ?_
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self, load_full, load_filled, load_mask, load_gates,
        fold_masked, fold_gates, fold_input, fold_combine, fold_cell]
      simp only [pieces, stateAt, steps, Nat.reduceMul, Nat.reduceAdd, Nat.reduceMod]
    isplitl [H8]
    · iexists _; isplitr; swap; · iexact H8
      ipureintro
      refine (stored_full _ _ _ _ _).trans ?_
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self, load_full, load_filled, load_mask, load_gates,
        fold_masked, fold_gates, fold_input, fold_combine, fold_cell]
      simp only [stateAt, steps, Nat.reduceMul, Nat.reduceAdd]
    isplitl [H9]
    · iexists _; isplitr; swap; · iexact H9
      ipureintro
      refine (stored_full _ _ _ _ _).trans ?_
      sl_unfold_run_names
      simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_self, load_full, load_filled, load_mask, load_gates,
        fold_masked, fold_gates, fold_input, fold_combine, fold_cell]
      simp only [stateAt, steps, Nat.reduceMul, Nat.reduceAdd]
    iexists _; iexists _; isplitr; swap; · iexact H10
    ipureintro; rfl

end Cert.Gru

end
-- ==== Proof.Layer0.lean ====
/- The first layer's grid: what its thirty-two points read, carry and write, point by point. -/
module

public import proofs.«01_k».proof.Proof.Body0
public import proofs.«01_k».proof.Proof.Gen.KernelIdeal.Regions
public import Idealize.ShloMosaic.Lib.Pipeline.RegionArraysS

@[expose] public section

set_option maxRecDepth 16384

noncomputable section

namespace Cert.Gru.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The blocks and the state -/

/-- Window `w`'s block at point `t`, read off the contents `V` the region is entered at. -/
def iblk (V : Valuation τ sig (Elt F)) (w : Fin cfg0.W) (t : Fin cfg0.N) :
    ((cfg0.win w).xblock (cfg0.grid.coords t)).Idx → Elt F (cfg0.win w).elt :=
  ((cfg0.win w).blk t).view.read (Elt F) (V (Proc.devRef .tc (Pipeline.arrRef spec0 w)))

variable (V : Valuation τ sig (Elt F))

/-- The input rows of point `t`. -/
abbrev xB (t : Fin cfg0.N) : Vec F S256x1024 .bf16 := iblk V 0 t
/-- The masks of point `t`'s sixteen steps. -/
abbrev kB (t : Fin cfg0.N) : Vec F S16x16x1 .f32 := iblk V 1 t
/-- The input weights. -/
abbrev wiB (t : Fin cfg0.N) : Vec F S1024x3072 .bf16 := iblk V 2 t
/-- The state weights. -/
abbrev whB (t : Fin cfg0.N) : Vec F S1024x3072 .bf16 := iblk V 3 t
/-- The input biases. -/
abbrev biB (t : Fin cfg0.N) : Vec F S1x3072 .f32 := iblk V 4 t
/-- The state biases. -/
abbrev bhB (t : Fin cfg0.N) : Vec F S1x3072 .f32 := iblk V 5 t
/-- The initial state. -/
abbrev hB (t : Fin cfg0.N) : Vec F S16x1024 .f32 := iblk V 6 t

/-- The point numbered `n`, counted round the grid. -/
def pt (n : ℕ) : Fin cfg0.N := ⟨n % 32, lt_of_lt_of_eq (Nat.mod_lt n (by decide)) (show 32 = cfg0.N from N_0.symm)⟩

theorem pt_val (t : Fin cfg0.N) : pt t.val = t :=
  Fin.ext (Nat.mod_eq_of_lt (lt_of_lt_of_eq t.isLt (show cfg0.N = 32 from N_0)))

/-- The state before point `n`: the initial one, then what each point's sixteen steps make of it. -/
def hAt : ℕ → FVec F S16x1024 .f32
  | 0 => hB V (pt 0)
  | n + 1 => stateAt (xB V (pt n)) (kB V (pt n)) (wiB V (pt n)) (whB V (pt n)) (biB V (pt n)) (bhB V (pt n)) (hAt n) 16

/-- The rows point `t` writes. -/
def yAt (t : Fin cfg0.N) : Vec F S256x1024 .bf16 :=
  yBlock0 (xB V t) (kB V t) (wiB V t) (whB V t) (biB V t) (bhB V t) (hAt V t.val)

theorem hAt_succ (t : Fin cfg0.N) :
    hAt V (t.val + 1) = stateAt (xB V t) (kB V t) (wiB V t) (whB V t) (biB V t) (bhB V t) (hAt V t.val) 16 := by
  rw [hAt, pt_val]

/-- The grid's coordinate is the point's number. -/
theorem coord (t : Fin cfg0.N) : (grid0.coords t 0).val = t.val :=
  (show (grid0.coords t 0).val = t.val / 1 % 32 from Pipeline.Grid.coords_val t 0 (by decide) rfl).trans
    ((congrArg (· % 32) (Nat.div_one t.val)).trans (Nat.mod_eq_of_lt (Nat.lt_of_lt_of_eq t.isLt N_0)))

/-! ## The invariant -/

/-- The scratch the state is carried in. -/
abbrev carried : Memref sig .tc .vmem S16x1024 .f32 := Memref.whole cc0_scratch0
/-- The scratch a point's input gates are kept in. -/
abbrev gates : Memref sig .tc .vmem S256x3072 .f32 := Memref.whole cc0_scratch1

/-- The other scoped buffers, which the body does not name. -/
def others (c : Dev nD) : sProp 𝕄 :=
  Pipeline.scopedRestBut (Ix := Unit) (Name := ℕ) (U := UR sig nD τ) (Lvl := ℕ) (Val := Elt F) spec0 c [cc0_scratch0, cc0_scratch1]

/-- The scoped buffers no window stages: the two scratches at some contents, and the others. -/
theorem scoped_eq (c : Dev nD) :
    (Pipeline.scopedRest (Ix := Unit) (Name := ℕ) (U := UR sig nD τ) (Lvl := ℕ) (Val := Elt F) spec0 c : sProp 𝕄)
      = iprop(((∃ d, owns (c : Thread nD τ) carried fullShare d) ∗ (∃ d, owns (c : Thread nD τ) gates fullShare d)) ∗ others c) := by
  rw [Pipeline.scopedRest_split_of_list spec0 c [cc0_scratch0, cc0_scratch1] (by decide) (by decide)]
  simp only [carried, gates, owns_whole]
  rfl

/-- The region's proof data on core `c`: arrays as found, each input's buffer at its block, the outputs' at the rows and the
    state of the point, nothing owed. -/
def dat (c : Dev nD) : Dat τ (Elt F) Unit ℕ (UR sig nD τ) ℕ cfg0 c where
  A w := V (Proc.devRef .tc (Pipeline.arrRef spec0 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => yAt V t
    | ⟨8, _⟩ => hAt V (t.val + 1)
  Φ t := Inv c carried gates (hAt V) (others c) t.val
  q _ := fullShare
  owed _ := 0

theorem dat_A (c : Dev nD) (w : Fin cfg0.W) : (dat V c).A w = V (Proc.devRef .tc (Pipeline.arrRef spec0 w)) := by dsimp only [dat]
theorem after0 (c : Dev nD) (t : Fin cfg0.N) : (dat V c).after 0 t = iblk V 0 t := by dsimp only [dat]
theorem after1 (c : Dev nD) (t : Fin cfg0.N) : (dat V c).after 1 t = iblk V 1 t := by dsimp only [dat]
theorem after2 (c : Dev nD) (t : Fin cfg0.N) : (dat V c).after 2 t = iblk V 2 t := by dsimp only [dat]
theorem after3 (c : Dev nD) (t : Fin cfg0.N) : (dat V c).after 3 t = iblk V 3 t := by dsimp only [dat]
theorem after4 (c : Dev nD) (t : Fin cfg0.N) : (dat V c).after 4 t = iblk V 4 t := by dsimp only [dat]
theorem after5 (c : Dev nD) (t : Fin cfg0.N) : (dat V c).after 5 t = iblk V 5 t := by dsimp only [dat]
theorem after6 (c : Dev nD) (t : Fin cfg0.N) : (dat V c).after 6 t = iblk V 6 t := by dsimp only [dat]
theorem after7 (c : Dev nD) (t : Fin cfg0.N) : (dat V c).after 7 t = yAt V t := by dsimp only [dat]
theorem after8 (c : Dev nD) (t : Fin cfg0.N) : (dat V c).after 8 t = hAt V (t.val + 1) := by dsimp only [dat]

/-! Each input's buffer holds its block at every point, fetched there or not. -/

theorem before0 (c : Dev nD) (t : Fin cfg0.N) (d) : (dat V c).before 0 t d = iblk V 0 t :=
  ((dat V c).before_in_eq_fetched 0 rfl (fun _ => rfl) (fun _ _ _ => rfl)
    (fun t => by rw [after0]; unfold Dat.blockOf iblk; rw [dat_A]; try rfl) t d).trans
    (by unfold Dat.fetched Dat.blockOf iblk; rw [dat_A]; try rfl)
theorem before1 (c : Dev nD) (t : Fin cfg0.N) (d) : (dat V c).before 1 t d = iblk V 1 t :=
  ((dat V c).before_in_eq_fetched 1 rfl (fun _ => rfl) (fun _ _ _ => rfl)
    (fun t => by rw [after1]; unfold Dat.blockOf iblk; rw [dat_A]; try rfl) t d).trans
    (by unfold Dat.fetched Dat.blockOf iblk; rw [dat_A]; try rfl)
theorem before2 (c : Dev nD) (t : Fin cfg0.N) (d) : (dat V c).before 2 t d = iblk V 2 t :=
  ((dat V c).before_in_eq_fetched 2 rfl (fun _ => rfl) (fun _ _ _ => rfl)
    (fun t => by rw [after2]; unfold Dat.blockOf iblk; rw [dat_A]; try rfl) t d).trans
    (by unfold Dat.fetched Dat.blockOf iblk; rw [dat_A]; try rfl)
theorem before3 (c : Dev nD) (t : Fin cfg0.N) (d) : (dat V c).before 3 t d = iblk V 3 t :=
  ((dat V c).before_in_eq_fetched 3 rfl (fun _ => rfl) (fun _ _ _ => rfl)
    (fun t => by rw [after3]; unfold Dat.blockOf iblk; rw [dat_A]; try rfl) t d).trans
    (by unfold Dat.fetched Dat.blockOf iblk; rw [dat_A]; try rfl)
theorem before4 (c : Dev nD) (t : Fin cfg0.N) (d) : (dat V c).before 4 t d = iblk V 4 t :=
  ((dat V c).before_in_eq_fetched 4 rfl (fun _ => rfl) (fun _ _ _ => rfl)
    (fun t => by rw [after4]; unfold Dat.blockOf iblk; rw [dat_A]; try rfl) t d).trans
    (by unfold Dat.fetched Dat.blockOf iblk; rw [dat_A]; try rfl)
theorem before5 (c : Dev nD) (t : Fin cfg0.N) (d) : (dat V c).before 5 t d = iblk V 5 t :=
  ((dat V c).before_in_eq_fetched 5 rfl (fun _ => rfl) (fun _ _ _ => rfl)
    (fun t => by rw [after5]; unfold Dat.blockOf iblk; rw [dat_A]; try rfl) t d).trans
    (by unfold Dat.fetched Dat.blockOf iblk; rw [dat_A]; try rfl)
theorem before6 (c : Dev nD) (t : Fin cfg0.N) (d) : (dat V c).before 6 t d = iblk V 6 t :=
  ((dat V c).before_in_eq_fetched 6 rfl (fun _ => rfl) (fun _ _ _ => rfl)
    (fun t => by rw [after6]; unfold Dat.blockOf iblk; rw [dat_A]; try rfl) t d).trans
    (by unfold Dat.fetched Dat.blockOf iblk; rw [dat_A]; try rfl)

/-! ## The body at one point -/

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t))

/-- The body meets the common statement of a point: the state it starts from is the initial one at the first point, the carried one
    at the others. -/
theorem spec (c : Dev nD) (t : Fin cfg0.N) (hc : FVec F S16x1024 .f32) (hcc : t.val ≠ 0 → hc = hAt V t.val) :
    PointSpec c (bodyAt0 t) (st0_0 t) (st0_1 t) (st0_2 t) (st0_3 t) (st0_4 t) (st0_5 t) (st0_6 t) (st0_7 t) (st0_8 t) carried gates
      (xB V t) (kB V t) (wiB V t) (whB V t) (biB V t) (bhB V t) (hB V t) (yAt V t) hc (hAt V t.val) := by
  have hf : First (grid0.coords t 0).val ↔ t.val = 0 := by rw [coord]; exact first_iff (Nat.lt_of_lt_of_eq t.isLt N_0)
  exact body0 c (grid0.coords t) _ _ _ _ _ _ _ _ _ _ _ _ _ _ _ _ _ _ carried (Memref.isWhole_whole _) gates (Memref.isWhole_whole _)
    (xB V t) (kB V t) (wiB V t) (whB V t) (biB V t) (bhB V t) (hB V t) hc (hAt V t.val)
    (fun h => by rw [hf.mp h, hAt, ← hf.mp h, pt_val]) (fun h => (hcc fun h' => h (hf.mpr h')).symm)

set_option maxHeartbeats 1600000 in
/-- One point: the sixteen steps run from the state the scratch carries (from the initial state at the first point). -/
theorem sound_body (c : Dev nD) (t : Fin cfg0.N) :
    bodyPre V c t ⊢ wp frame (wpE (defs₀ (F := F)) Variants.none c none) Set.univ (bodyAt0 t) (fun _ => bodyPost V c t) := by
  unfold bodyPre bodyPost
  simp only [before0, before1, before2, before3, before4, before5, before6]
  exact point_windows _ _ _ _ _ _ _ _ _ _ _ _ _ _ _ _ _ _ _ (run_point c (bodyAt0 t) _ _ _ _ _ _ _ _ _ carried gates _ _ _ _ _ _ _ _ (hAt V) (others c) t.val _ (hAt_succ V t) (spec V c t))

/-- The label the grid calls at point `t` is the body on that point's buffers. -/
theorem row (t : Fin cfg0.N) : defs₀ (F := F) .tc cfg0.body (cfg0.bodyArgs t (cfg0.slots t)) = bodyAt0 t := by
  unfold defs₀; rw [Defs.onTc_tc]; try rfl

/-- The body keeps its side at every point. -/
theorem obligation (c : Dev nD) : BodyObligation (dat (F := F) V c) (defs₀ (F := F)) Variants.none () Set.univ := fun t => by
  rw [bigSep_W0, bigSep_W0, row]
  exact triple_restated (sound_body V c t) rfl .rfl fun _ => .rfl

/-- The region's scoped buffers and the generator's register make the first invariant. -/
theorem enter (c : Dev nD) :
    iprop(Pipeline.scopedRest (Ix := Unit) (Name := ℕ) (U := UR sig nD τ) (Lvl := ℕ) (Val := Elt F) spec0 c ∗ ∃ r, prngReg c r)
      ⊢ (dat V c).Φ 0 := by
  rw [scoped_eq]
  exact inv_enter c carried gates (hAt V) (others c)

/-- The last invariant gives them back. -/
theorem leave (c : Dev nD) :
    (dat V c).Φ (Fin.last cfg0.N)
      ⊢ iprop(Pipeline.scopedRest (Ix := Unit) (Name := ℕ) (U := UR sig nD τ) (Lvl := ℕ) (Val := Elt F) spec0 c ∗ ∃ r, prngReg c r) := by
  rw [scoped_eq]
  exact inv_leave c carried gates (hAt V) (others c) cfg0.N

end Cert.Gru.Layer0

end
-- ==== Proof.Body1.lean ====
/- One point of the second layer: sixteen steps of the recurrent cell, run on the staged blocks. -/
module

public import proofs.«01_k».proof.Proof.Stores
public import proofs.«01_k».proof.Proof.Point

@[expose] public section

set_option maxRecDepth 16384

noncomputable section

namespace Cert.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rows layer 1 writes for one block: the state after each of the sixteen steps. -/
def yBlock1 (x : Vec F S256x1024 .bf16) (k : Vec F S16x16x1 .f32) (wi wh : Vec F S1024x3072 .bf16) (bi bh : Vec F S1x3072 .f32)
    (h : FVec F S16x1024 .f32) : Vec F S256x1024 .f32 :=
  rows16 fun b => (stateAt x k wi wh bi bh h (b + 1))

set_option maxHeartbeats 2000000 in
/-- One point of layer 1: from the state `h` — the initial state at the first point, what the carried scratch holds
    at the others — the body leaves the sixteen states in the output block, and the last of them in the carried scratch
    and in the final-state block. -/
theorem body1 (c : Dev nD) (i : grid1.Coords) (arg1 : Memref sig .tc .vmem S256x1024 .bf16) (harg1 : arg1.IsWhole) (arg2 : Memref sig .tc .vmem S16x16x1 .f32) (harg2 : arg2.IsWhole) (arg3 : Memref sig .tc .vmem S1024x3072 .bf16) (harg3 : arg3.IsWhole) (arg4 : Memref sig .tc .vmem S1024x3072 .bf16) (harg4 : arg4.IsWhole) (arg5 : Memref sig .tc .vmem S1x3072 .f32) (harg5 : arg5.IsWhole) (arg6 : Memref sig .tc .vmem S1x3072 .f32) (harg6 : arg6.IsWhole) (arg7 : Memref sig .tc .vmem S16x1024 .f32) (harg7 : arg7.IsWhole) (arg8 : Memref sig .tc .vmem S256x1024 .f32) (harg8 : arg8.IsWhole) (arg9 : Memref sig .tc .vmem S16x1024 .f32) (harg9 : arg9.IsWhole) (arg10 : Memref sig .tc .vmem S16x1024 .f32) (harg10 : arg10.IsWhole) (arg11 : Memref sig .tc .vmem S256x3072 .f32) (harg11 : arg11.IsWhole)
    (x : Vec F S256x1024 .bf16) (k : Vec F S16x16x1 .f32) (wi wh : Vec F S1024x3072 .bf16) (bi bh : Vec F S1x3072 .f32)
    (h0 hc h : Vec F S16x1024 .f32) (hfirst : First (i 0).val → h = h0) (hnext : ¬First (i 0).val → h = hc) :
    PointSpec c (cc1_body i arg1 harg1 arg2 harg2 arg3 harg3 arg4 harg4 arg5 harg5 arg6 harg6 arg7 harg7 arg8 harg8 arg9 harg9 arg10 harg10 arg11 harg11)
      arg1 arg2 arg3 arg4 arg5 arg6 arg7 arg8 arg9 arg10 arg11 x k wi wh bi bh h0 (yBlock1 x k wi wh bi bh h) hc h := by
  intro E K
  simp only [cc1_body_eq_skeleton]; unfold cc1_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨%d7, %f7, -, H7⟩, ⟨%d8, %f8, -, H8⟩, ⟨%f9, %hf9, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9
  rcases Classical.em (First (i 0).val) with hi | hi
  on_goal 1 => obtain rfl := hfirst hi
  on_goal 2 => obtain rfl := hnext hi
  all_goals
    sl_exec (disch := first | sl_exact hi)
    sl_step
    iapply Hk
    isplitl [H0 H1 H2 H3 H4 H5 H6]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      iexists _; isplitr; · ipureintro; exact harg7.read_unread _
      iexact H6
    isplitl [H7]
    · iexists _; isplitr; swap; · iexact H7
      ipureintro
      refine rows_left _ _ _ _ ?_
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, shapeCast_self, load_full, load_filled, load_mask, load_gates,
        fold_masked, fold_gates, fold_input, fold_combine, fold_cell]
      simp only [pieces, stateAt, steps, Nat.reduceMul, Nat.reduceAdd, Nat.reduceMod]
    isplitl [H8]
    · iexists _; isplitr; swap; · iexact H8
      ipureintro
      refine (stored_full _ _ _ _ _).trans ?_
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, shapeCast_self, load_full, load_filled, load_mask, load_gates,
        fold_masked, fold_gates, fold_input, fold_combine, fold_cell]
      simp only [stateAt, steps, Nat.reduceMul, Nat.reduceAdd]
    isplitl [H9]
    · iexists _; isplitr; swap; · iexact H9
      ipureintro
      refine (stored_full _ _ _ _ _).trans ?_
      sl_unfold_run_names
      simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, shapeCast_self, load_full, load_filled, load_mask, load_gates,
        fold_masked, fold_gates, fold_input, fold_combine, fold_cell]
      simp only [stateAt, steps, Nat.reduceMul, Nat.reduceAdd]
    iexists _; iexists _; isplitr; swap; · iexact H10
    ipureintro; rfl

end Cert.Gru

end
-- ==== Proof.Layer1.lean ====
/- The second layer's grid: what its thirty-two points read, carry and write, point by point. -/
module

public import proofs.«01_k».proof.Proof.Body1
public import proofs.«01_k».proof.Proof.Gen.KernelIdeal.Regions
public import Idealize.ShloMosaic.Lib.Pipeline.RegionArraysS

@[expose] public section

set_option maxRecDepth 16384

noncomputable section

namespace Cert.Gru.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The blocks and the state -/

/-- Window `w`'s block at point `t`, read off the contents `V` the region is entered at. -/
def iblk (V : Valuation τ sig (Elt F)) (w : Fin cfg1.W) (t : Fin cfg1.N) :
    ((cfg1.win w).xblock (cfg1.grid.coords t)).Idx → Elt F (cfg1.win w).elt :=
  ((cfg1.win w).blk t).view.read (Elt F) (V (Proc.devRef .tc (Pipeline.arrRef spec1 w)))

variable (V : Valuation τ sig (Elt F))

/-- The input rows of point `t`. -/
abbrev xB (t : Fin cfg1.N) : Vec F S256x1024 .bf16 := iblk V 0 t
/-- The masks of point `t`'s sixteen steps. -/
abbrev kB (t : Fin cfg1.N) : Vec F S16x16x1 .f32 := iblk V 1 t
/-- The input weights. -/
abbrev wiB (t : Fin cfg1.N) : Vec F S1024x3072 .bf16 := iblk V 2 t
/-- The state weights. -/
abbrev whB (t : Fin cfg1.N) : Vec F S1024x3072 .bf16 := iblk V 3 t
/-- The input biases. -/
abbrev biB (t : Fin cfg1.N) : Vec F S1x3072 .f32 := iblk V 4 t
/-- The state biases. -/
abbrev bhB (t : Fin cfg1.N) : Vec F S1x3072 .f32 := iblk V 5 t
/-- The initial state. -/
abbrev hB (t : Fin cfg1.N) : Vec F S16x1024 .f32 := iblk V 6 t

/-- The point numbered `n`, counted round the grid. -/
def pt (n : ℕ) : Fin cfg1.N := ⟨n % 32, lt_of_lt_of_eq (Nat.mod_lt n (by decide)) (show 32 = cfg1.N from N_1.symm)⟩

theorem pt_val (t : Fin cfg1.N) : pt t.val = t :=
  Fin.ext (Nat.mod_eq_of_lt (lt_of_lt_of_eq t.isLt (show cfg1.N = 32 from N_1)))

/-- The state before point `n`: the initial one, then what each point's sixteen steps make of it. -/
def hAt : ℕ → FVec F S16x1024 .f32
  | 0 => hB V (pt 0)
  | n + 1 => stateAt (xB V (pt n)) (kB V (pt n)) (wiB V (pt n)) (whB V (pt n)) (biB V (pt n)) (bhB V (pt n)) (hAt n) 16

/-- The rows point `t` writes. -/
def yAt (t : Fin cfg1.N) : Vec F S256x1024 .f32 :=
  yBlock1 (xB V t) (kB V t) (wiB V t) (whB V t) (biB V t) (bhB V t) (hAt V t.val)

theorem hAt_succ (t : Fin cfg1.N) :
    hAt V (t.val + 1) = stateAt (xB V t) (kB V t) (wiB V t) (whB V t) (biB V t) (bhB V t) (hAt V t.val) 16 := by
  rw [hAt, pt_val]

/-- The grid's coordinate is the point's number. -/
theorem coord (t : Fin cfg1.N) : (grid1.coords t 0).val = t.val :=
  (show (grid1.coords t 0).val = t.val / 1 % 32 from Pipeline.Grid.coords_val t 0 (by decide) rfl).trans
    ((congrArg (· % 32) (Nat.div_one t.val)).trans (Nat.mod_eq_of_lt (Nat.lt_of_lt_of_eq t.isLt N_1)))

/-! ## The invariant -/

/-- The scratch the state is carried in. -/
abbrev carried : Memref sig .tc .vmem S16x1024 .f32 := Memref.whole cc1_scratch0
/-- The scratch a point's input gates are kept in. -/
abbrev gates : Memref sig .tc .vmem S256x3072 .f32 := Memref.whole cc1_scratch1

/-- The other scoped buffers, which the body does not name. -/
def others (c : Dev nD) : sProp 𝕄 :=
  Pipeline.scopedRestBut (Ix := Unit) (Name := ℕ) (U := UR sig nD τ) (Lvl := ℕ) (Val := Elt F) spec1 c [cc1_scratch0, cc1_scratch1]

/-- The scoped buffers no window stages: the two scratches at some contents, and the others. -/
theorem scoped_eq (c : Dev nD) :
    (Pipeline.scopedRest (Ix := Unit) (Name := ℕ) (U := UR sig nD τ) (Lvl := ℕ) (Val := Elt F) spec1 c : sProp 𝕄)
      = iprop(((∃ d, owns (c : Thread nD τ) carried fullShare d) ∗ (∃ d, owns (c : Thread nD τ) gates fullShare d)) ∗ others c) := by
  rw [Pipeline.scopedRest_split_of_list spec1 c [cc1_scratch0, cc1_scratch1] (by decide) (by decide)]
  simp only [carried, gates, owns_whole]
  rfl

/-- The region's proof data on core `c`: arrays as found, each input's buffer at its block, the outputs' at the rows and the
    state of the point, nothing owed. -/
def dat (c : Dev nD) : Dat τ (Elt F) Unit ℕ (UR sig nD τ) ℕ cfg1 c where
  A w := V (Proc.devRef .tc (Pipeline.arrRef spec1 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => yAt V t
    | ⟨8, _⟩ => hAt V (t.val + 1)
  Φ t := Inv c carried gates (hAt V) (others c) t.val
  q _ := fullShare
  owed _ := 0

theorem dat_A (c : Dev nD) (w : Fin cfg1.W) : (dat V c).A w = V (Proc.devRef .tc (Pipeline.arrRef spec1 w)) := by dsimp only [dat]
theorem after0 (c : Dev nD) (t : Fin cfg1.N) : (dat V c).after 0 t = iblk V 0 t := by dsimp only [dat]
theorem after1 (c : Dev nD) (t : Fin cfg1.N) : (dat V c).after 1 t = iblk V 1 t := by dsimp only [dat]
theorem after2 (c : Dev nD) (t : Fin cfg1.N) : (dat V c).after 2 t = iblk V 2 t := by dsimp only [dat]
theorem after3 (c : Dev nD) (t : Fin cfg1.N) : (dat V c).after 3 t = iblk V 3 t := by dsimp only [dat]
theorem after4 (c : Dev nD) (t : Fin cfg1.N) : (dat V c).after 4 t = iblk V 4 t := by dsimp only [dat]
theorem after5 (c : Dev nD) (t : Fin cfg1.N) : (dat V c).after 5 t = iblk V 5 t := by dsimp only [dat]
theorem after6 (c : Dev nD) (t : Fin cfg1.N) : (dat V c).after 6 t = iblk V 6 t := by dsimp only [dat]
theorem after7 (c : Dev nD) (t : Fin cfg1.N) : (dat V c).after 7 t = yAt V t := by dsimp only [dat]
theorem after8 (c : Dev nD) (t : Fin cfg1.N) : (dat V c).after 8 t = hAt V (t.val + 1) := by dsimp only [dat]

/-! Each input's buffer holds its block at every point, fetched there or not. -/

theorem before0 (c : Dev nD) (t : Fin cfg1.N) (d) : (dat V c).before 0 t d = iblk V 0 t :=
  ((dat V c).before_in_eq_fetched 0 rfl (fun _ => rfl) (fun _ _ _ => rfl)
    (fun t => by rw [after0]; unfold Dat.blockOf iblk; rw [dat_A]; try rfl) t d).trans
    (by unfold Dat.fetched Dat.blockOf iblk; rw [dat_A]; try rfl)
theorem before1 (c : Dev nD) (t : Fin cfg1.N) (d) : (dat V c).before 1 t d = iblk V 1 t :=
  ((dat V c).before_in_eq_fetched 1 rfl (fun _ => rfl) (fun _ _ _ => rfl)
    (fun t => by rw [after1]; unfold Dat.blockOf iblk; rw [dat_A]; try rfl) t d).trans
    (by unfold Dat.fetched Dat.blockOf iblk; rw [dat_A]; try rfl)
theorem before2 (c : Dev nD) (t : Fin cfg1.N) (d) : (dat V c).before 2 t d = iblk V 2 t :=
  ((dat V c).before_in_eq_fetched 2 rfl (fun _ => rfl) (fun _ _ _ => rfl)
    (fun t => by rw [after2]; unfold Dat.blockOf iblk; rw [dat_A]; try rfl) t d).trans
    (by unfold Dat.fetched Dat.blockOf iblk; rw [dat_A]; try rfl)
theorem before3 (c : Dev nD) (t : Fin cfg1.N) (d) : (dat V c).before 3 t d = iblk V 3 t :=
  ((dat V c).before_in_eq_fetched 3 rfl (fun _ => rfl) (fun _ _ _ => rfl)
    (fun t => by rw [after3]; unfold Dat.blockOf iblk; rw [dat_A]; try rfl) t d).trans
    (by unfold Dat.fetched Dat.blockOf iblk; rw [dat_A]; try rfl)
theorem before4 (c : Dev nD) (t : Fin cfg1.N) (d) : (dat V c).before 4 t d = iblk V 4 t :=
  ((dat V c).before_in_eq_fetched 4 rfl (fun _ => rfl) (fun _ _ _ => rfl)
    (fun t => by rw [after4]; unfold Dat.blockOf iblk; rw [dat_A]; try rfl) t d).trans
    (by unfold Dat.fetched Dat.blockOf iblk; rw [dat_A]; try rfl)
theorem before5 (c : Dev nD) (t : Fin cfg1.N) (d) : (dat V c).before 5 t d = iblk V 5 t :=
  ((dat V c).before_in_eq_fetched 5 rfl (fun _ => rfl) (fun _ _ _ => rfl)
    (fun t => by rw [after5]; unfold Dat.blockOf iblk; rw [dat_A]; try rfl) t d).trans
    (by unfold Dat.fetched Dat.blockOf iblk; rw [dat_A]; try rfl)
theorem before6 (c : Dev nD) (t : Fin cfg1.N) (d) : (dat V c).before 6 t d = iblk V 6 t :=
  ((dat V c).before_in_eq_fetched 6 rfl (fun _ => rfl) (fun _ _ _ => rfl)
    (fun t => by rw [after6]; unfold Dat.blockOf iblk; rw [dat_A]; try rfl) t d).trans
    (by unfold Dat.fetched Dat.blockOf iblk; rw [dat_A]; try rfl)

/-! ## The body at one point -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body meets the common statement of a point: the state it starts from is the initial one at the first point, the carried one
    at the others. -/
theorem spec (c : Dev nD) (t : Fin cfg1.N) (hc : FVec F S16x1024 .f32) (hcc : t.val ≠ 0 → hc = hAt V t.val) :
    PointSpec c (bodyAt1 t) (st1_0 t) (st1_1 t) (st1_2 t) (st1_3 t) (st1_4 t) (st1_5 t) (st1_6 t) (st1_7 t) (st1_8 t) carried gates
      (xB V t) (kB V t) (wiB V t) (whB V t) (biB V t) (bhB V t) (hB V t) (yAt V t) hc (hAt V t.val) := by
  have hf : First (grid1.coords t 0).val ↔ t.val = 0 := by rw [coord]; exact first_iff (Nat.lt_of_lt_of_eq t.isLt N_1)
  exact body1 c (grid1.coords t) _ _ _ _ _ _ _ _ _ _ _ _ _ _ _ _ _ _ carried (Memref.isWhole_whole _) gates (Memref.isWhole_whole _)
    (xB V t) (kB V t) (wiB V t) (whB V t) (biB V t) (bhB V t) (hB V t) hc (hAt V t.val)
    (fun h => by rw [hf.mp h, hAt, ← hf.mp h, pt_val]) (fun h => (hcc fun h' => h (hf.mpr h')).symm)

set_option maxHeartbeats 1600000 in
/-- One point: the sixteen steps run from the state the scratch carries (from the initial state at the first point). -/
theorem sound_body (c : Dev nD) (t : Fin cfg1.N) :
    bodyPre V c t ⊢ wp frame (wpE (defs₀ (F := F)) Variants.none c none) Set.univ (bodyAt1 t) (fun _ => bodyPost V c t) := by
  unfold bodyPre bodyPost
  simp only [before0, before1, before2, before3, before4, before5, before6]
  exact point_windows _ _ _ _ _ _ _ _ _ _ _ _ _ _ _ _ _ _ _ (run_point c (bodyAt1 t) _ _ _ _ _ _ _ _ _ carried gates _ _ _ _ _ _ _ _ (hAt V) (others c) t.val _ (hAt_succ V t) (spec V c t))

/-- The label the grid calls at point `t` is the body on that point's buffers. -/
theorem row (t : Fin cfg1.N) : defs₀ (F := F) .tc cfg1.body (cfg1.bodyArgs t (cfg1.slots t)) = bodyAt1 t := by
  unfold defs₀; rw [Defs.onTc_tc]; try rfl

/-- The body keeps its side at every point. -/
theorem obligation (c : Dev nD) : BodyObligation (dat (F := F) V c) (defs₀ (F := F)) Variants.none () Set.univ := fun t => by
  rw [bigSep_W1, bigSep_W1, row]
  exact triple_restated (sound_body V c t) rfl .rfl fun _ => .rfl

/-- The region's scoped buffers and the generator's register make the first invariant. -/
theorem enter (c : Dev nD) :
    iprop(Pipeline.scopedRest (Ix := Unit) (Name := ℕ) (U := UR sig nD τ) (Lvl := ℕ) (Val := Elt F) spec1 c ∗ ∃ r, prngReg c r)
      ⊢ (dat V c).Φ 0 := by
  rw [scoped_eq]
  exact inv_enter c carried gates (hAt V) (others c)

/-- The last invariant gives them back. -/
theorem leave (c : Dev nD) :
    (dat V c).Φ (Fin.last cfg1.N)
      ⊢ iprop(Pipeline.scopedRest (Ix := Unit) (Name := ℕ) (U := UR sig nD τ) (Lvl := ℕ) (Val := Elt F) spec1 c ∗ ∃ r, prngReg c r) := by
  rw [scoped_eq]
  exact inv_leave c carried gates (hAt V) (others c) cfg1.N

end Cert.Gru.Layer1

end
-- ==== Proof.Twin.lean ====
/- The frame of the kernel over any values, and its reading at bit patterns. -/
module

public import proofs.«01_k».proof.Defs
public import proofs.«01_k».proof.Proof.Gen.Kernel
public import Idealize.ShloMosaic.Lib.Ring
public import proofs.«01_k».proof.Proof.Gen.KernelIdeal

@[expose] public section

noncomputable section

namespace Cert.Gru

open Idealize.ShloMosaic Idealize.SL.Sem

/-- Over values `F`: the kernel terminates without a fault, leaves its arguments as they were and every counter at zero. -/
def FrameAt (F : FTy → Type) [FloatOps F] (m : (ℓ : Loc Cert.KernelIdeal.nD Cert.KernelIdeal.τ Cert.KernelIdeal.sig) → Buf (Elt F) ℓ)
    (g : Dev Cert.KernelIdeal.nD → PrngReg) : Prop :=
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

/-- The program as compiled and the program read over real numbers are one text, so the second's frame at bit patterns is
    the first's. -/
theorem kernel_of_frames (h : ∀ m g, FrameAt Bits m g) : @Cert.quiescent_Kernel Cert.Kernel.Gen.facts := by
  have e : @Cert.quiescent_Kernel Cert.Kernel.Gen.facts = ∀ m g, True → FrameAt Bits m g := by sl_kernel_rfl
  exact e ▸ fun m g _ => h m g

end Cert.Gru

end
-- ==== Proof.Launch.lean ====
/- The whole program: host operations, the first layer's grid, host operations, the second layer's grid, host operations. -/
module

public import proofs.«01_k».proof.Proof.Layer0
public import proofs.«01_k».proof.Proof.Layer1
public import proofs.«01_k».proof.Proof.Twin

@[expose] public section

set_option maxRecDepth 16384

noncomputable section

namespace Cert.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- After the first host operations. -/
def W1 (c : Dev nD) : Valuation τ sig (Elt F) := StableHlo.after hostOps0 (V0 m c)
/-- After the first layer's grid. -/
def W2 (c : Dev nD) : Valuation τ sig (Elt F) := Pipeline.afterRegion (Layer0.dat (W1 m c) c) (W1 m c)
/-- After the host operations between the layers. -/
def W3 (c : Dev nD) : Valuation τ sig (Elt F) := StableHlo.after hostOps1 (W2 m c)
/-- After the second layer's grid. -/
def W4 (c : Dev nD) : Valuation τ sig (Elt F) := Pipeline.afterRegion (Layer1.dat (W3 m c) c) (W3 m c)
/-- At the end. -/
def W5 (c : Dev nD) : Valuation τ sig (Elt F) := StableHlo.after hostOps2 (W4 m c)

/-- Both grids' proof data, each over the contents its grid is entered at. -/
def pdats : (p : Fin 2) → (c : Dev nD) → Dat τ (Elt F) Unit ℕ (UR sig nD τ) ℕ (cfgs p) c
  | ⟨0, _⟩, c => Layer0.dat (W1 m c) c
  | ⟨1, _⟩, c => Layer1.dat (W3 m c) c

/-! ## The segments -/

/-- Every cell of a TensorCore may be waited on; no other thread has one. -/
def Lv (g : GSem nD τ sig) : Finset Unit := if g.1.2 = .tc then {()} else ∅
/-- All at one level. -/
def lv (_ : GSem nD τ sig) (_ : Unit) : ℕ := 0

/-- What rides beside the buffers: the core owes nothing, and the generator's register at some state. -/
def rest (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () Lv lv p (fun _ : Dev nD => (0 : CellTallies nD τ sig Unit)) (fun _ => 0) where
  hι := fun c w s => by simp [Lv]
  hιb := fun _ _ _ => le_rfl
  hD := fun _ _ _ h => absurd h (lt_irrefl 0)

/-- A stretch of host operations over every buffer that outlives the regions. -/
def host (ops : List (HloOp τ sig (Elt F))) (hs : ops.Forall fun op => op.bufs ⊆ StableHlo.tcRefs τ sig)
    (hf : ops.Forall fun op => op.fresh = ∅) (W : Dev nD → Valuation τ sig (Elt F)) :
    HostSeg (Ix := Unit) (Name := ℕ) (U := UR sig nD τ) (Lvl := ℕ) (pcfgs (F := F)) defs₀ Variants.none Lv lv :=
  HostSeg.ofOps _ _ _ _ _ (Pipeline.ucRefs τ sig) ops
    (fun op h => Pipeline.sub_ucRefs op ((List.forall_iff_forall_mem.mp hs) op h))
    (fun op h => (List.forall_iff_forall_mem.mp hf) op h) W rest

/-- The first layer's grid, entered at `W1` and left at `W2`. -/
def region0 : RegionSeg (pcfgs (F := F)) adm (pdats m) () defs₀ Variants.none Lv lv 0 :=
  RegionSeg.ofHeldIn (pcfgs (F := F)) adm (pdats m) () defs₀ Variants.none Lv lv 0 (fun _ => 0) (Pipeline.ucRefs τ sig)
    (fun c => iprop(∃ r, prngReg c r)) (fun c => iprop(∃ r, prngReg c r)) launch0.toP rfl
    (fun c => (Layer0.obligation (W1 m c) c).loose) (fun _ _ => rfl) (fun _ => rfl)
    (fun c => (Layer0.dat (W1 m c) c).share_full fun _ => rfl) (fun c => Layer0.enter (W1 m c) c) (fun c => Layer0.leave (W1 m c) c)
    (fun _ => 0) (cut 0) (fun _ => iprop(emp)) (W1 m) (fun c w => Layer0.dat_A (W1 m c) c w)

/-- The second layer's grid, entered at `W3` and left at `W4`. -/
def region1 : RegionSeg (pcfgs (F := F)) adm (pdats m) () defs₀ Variants.none Lv lv 1 :=
  RegionSeg.ofHeldIn (pcfgs (F := F)) adm (pdats m) () defs₀ Variants.none Lv lv 1 (fun _ => 0) (Pipeline.ucRefs τ sig)
    (fun c => iprop(∃ r, prngReg c r)) (fun c => iprop(∃ r, prngReg c r)) launch1.toP rfl
    (fun c => (Layer1.obligation (W3 m c) c).loose) (fun _ _ => rfl) (fun _ => rfl)
    (fun c => (Layer1.dat (W3 m c) c).share_full fun _ => rfl) (fun c => Layer1.enter (W3 m c) c) (fun c => Layer1.leave (W3 m c) c)
    (fun _ => 0) (cut 1) (fun _ => iprop(emp)) (W3 m) (fun c w => Layer1.dat_A (W3 m c) c w)

/-- The program's five items. -/
abbrev items (_ : Dev nD) : List (Seg (pcfgs (F := F)) adm (pdats m) () defs₀ Variants.none Lv lv) :=
  [.host (host hostOps0 hostOps0_sub hostOps0_fresh (V0 m)), .region (region0 m),
    .host (host hostOps1 hostOps1_sub hostOps1_fresh (W2 m)), .region (region1 m),
    .host (host hostOps2 hostOps2_sub hostOps2_fresh (W4 m))]

theorem arrays0 : Pipeline.arrRefs (τ := τ) (pcfgs (F := F) 0).spec ⊆ Pipeline.ucRefs τ sig :=
  Pipeline.arrRefs_sub_ucRefs _ fun w => winFacts0.arr_unscoped w
theorem arrays1 : Pipeline.arrRefs (τ := τ) (pcfgs (F := F) 1).spec ⊆ Pipeline.ucRefs τ sig :=
  Pipeline.arrRefs_sub_ucRefs _ fun w => winFacts1.arr_unscoped w

/-- The first grid's entry, -/
theorem pre0 (c : Dev nD) : iprop(StableHlo.held (c : Thread nD τ) (Pipeline.ucRefs τ sig) (W1 m c) ∗ rest c) ⊢ (region0 m).pre c := by
  have h := RegionSeg.ofHeldIn_pre (a := adm) (pdats := pdats m) (ι := ()) (defs₀ := defs₀) (𝒱₀ := Variants.none) (L := Lv) (lv := lv) (p := 0)
    (D := fun _ => 0) (X := fun c => iprop(∃ r, prngReg c r)) (Y := fun c => iprop(∃ r, prngReg c r)) (kit := launch0.toP) (hK := rfl)
    (hbody := fun c => (Layer0.obligation (W1 m c) c).loose) (howed := fun _ _ => rfl) (hrec := fun _ => rfl)
    (hshare := fun c => (Layer0.dat (W1 m c) c).share_full fun _ => rfl) (hin := fun c => Layer0.enter (W1 m c) c)
    (hout := fun c => Layer0.leave (W1 m c) c) (b := fun _ => 0) (hcut := cut 0)
    (R := fun _ => iprop(emp)) (W := W1 m) (hW := fun c w => Layer0.dat_A (W1 m c) c w) arrays0 c
  unfold region0 rest; exact h
/-- its exit, -/
theorem post0 (c : Dev nD) : BI.Entails (M := 𝕄) ((region0 m).post c) <| iprop(StableHlo.held (c : Thread nD τ) (Pipeline.ucRefs τ sig) (W2 m c) ∗ rest c) := by
  unfold region0 rest W2; exact RegionSeg.ofHeldIn_post arrays0 c
/-- the second grid's entry, -/
theorem pre1 (c : Dev nD) : iprop(StableHlo.held (c : Thread nD τ) (Pipeline.ucRefs τ sig) (W3 m c) ∗ rest c) ⊢ (region1 m).pre c := by
  have h := RegionSeg.ofHeldIn_pre (a := adm) (pdats := pdats m) (ι := ()) (defs₀ := defs₀) (𝒱₀ := Variants.none) (L := Lv) (lv := lv) (p := 1)
    (D := fun _ => 0) (X := fun c => iprop(∃ r, prngReg c r)) (Y := fun c => iprop(∃ r, prngReg c r)) (kit := launch1.toP) (hK := rfl)
    (hbody := fun c => (Layer1.obligation (W3 m c) c).loose) (howed := fun _ _ => rfl) (hrec := fun _ => rfl)
    (hshare := fun c => (Layer1.dat (W3 m c) c).share_full fun _ => rfl) (hin := fun c => Layer1.enter (W3 m c) c)
    (hout := fun c => Layer1.leave (W3 m c) c) (b := fun _ => 0) (hcut := cut 1)
    (R := fun _ => iprop(emp)) (W := W3 m) (hW := fun c w => Layer1.dat_A (W3 m c) c w) arrays1 c
  unfold region1 rest; exact h
/-- its exit, -/
theorem post1 (c : Dev nD) : BI.Entails (M := 𝕄) ((region1 m).post c) <| iprop(StableHlo.held (c : Thread nD τ) (Pipeline.ucRefs τ sig) (W4 m c) ∗ rest c) := by
  unfold region1 rest W4; exact RegionSeg.ofHeldIn_post arrays1 c
/-- and the end. -/
theorem post2 (c : Dev nD) : (iprop(StableHlo.held (c : Thread nD τ) (Pipeline.ucRefs τ sig) (W5 m c) ∗ rest c) : sProp 𝕄)
    ⊢ iprop(StableHlo.held (c : Thread nD τ) (Pipeline.ucRefs τ sig) (W5 m c) ∗ ∃ Wd, owes (c : Thread nD τ) (0 : CellTallies nD τ sig Unit) Wd) :=
  sep_mono .rfl (by unfold rest; iintro ⟨H, -⟩; iexact H)

/-! ## The run -/

set_option backward.isDefEq.respectTransparency.types false in
/-- From any memory with zero counters the program terminates; at the end every buffer that outlives the regions is at `W5`, and
    every counter is zero. -/
theorem run (ρ : Dev nD → PrngReg) :
    θ_run defs (onTc (τ := τ) (main (F := F))) ⟨m, fun _ => 0, ρ⟩ (fun r =>
      (∀ c : Dev nD, ∀ b : Ref sig .tc, b.isScoped = false → r.2.mem ((c.tc : Thread nD τ).loc b) = W5 m c (Proc.devRef .tc b))
      ∧ r.2.sem = fun _ => 0) := by
  refine Pipeline.θ_run_regions_kit_dev_sems (pcfgs (F := F)) adm (pdats m) () cellOf_inj emb₁ defs₀ Variants.none Lv lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0
    (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (W5 m c))
    (hch := fun c => ⟨.rfl, pre0 m c, post0 m c, pre1 m c, post1 m c, post2 m c⟩)
    (hinit := ?_)
    (QY := fun c s => ∀ b : Ref sig .tc, b.isScoped = false → s.mem ((c.tc : Thread nD τ).loc b) = W5 m c (Proc.devRef .tc b))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hone (c : Dev nD) : iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp)
        ⊢ (iprop(StableHlo.held (c : Thread nD τ) (Pipeline.ucRefs τ sig) (V0 m c) ∗ rest c) : sProp 𝕄) := by
      rw [show (unscopedBufs c (fun b => m ((c.tc : Thread nD τ).loc b)) : sProp 𝕄) = StableHlo.held (c : Thread nD τ) (Pipeline.ucRefs τ sig) (V0 m c) from
        Pipeline.unscopedBufs_held (Ix := Unit) (Name := ℕ) (U := UR sig nD τ) (Lvl := ℕ) c (V0 m c)]
      unfold rest
      iintro ⟨Hh, -, Ho, -, Hg, He⟩
      isplitl [Hh]; · iexact Hh
      isplitl [Ho]; · iexists _; iexact Ho
      isplitl [Hg]; · iexists _; iexact Hg
      iexact He
    have hall : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (bigSep Finset.univ fun c : Dev nD => iprop(StableHlo.held (c : Thread nD τ) (Pipeline.ucRefs τ sig) (V0 m c) ∗ rest c) : sProp 𝕄) :=
      bigSep_mono fun c _ => hone c
    iintro ⟨H, -⟩
    ihave H' := hall $$ H
    imodintro
    iexact H'
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.Gru

end
-- ==== Proof.Frame.lean ====
/- The kernel leaves its arguments as they were, over any values. -/
module

public import proofs.«01_k».proof.Proof.Launch

@[expose] public section

set_option maxRecDepth 16384

noncomputable section

namespace Cert.Gru

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The first host operations leave what they do not write. -/
theorem W1_keeps (c : Dev nD) (r : Ref sig .tc) (h : r ∉ hostOps0_W) : W1 m c (Proc.devRef .tc r) = m ((c.tc : Thread nD τ).loc r) :=
  StableHlo.after_of_writes_sub hostOps0 (V0 m c) hostOps0_writes h

/-- The first grid changes its two output arrays only. -/
theorem W2_keeps (c : Dev nD) (r : Ref sig .tc) (h : ∀ w : Fin 9, Pipeline.arrRef spec0 w = r → (spec0 w).isOut = false) :
    W2 m c (Proc.devRef .tc r) = W1 m c (Proc.devRef .tc r) :=
  Pipeline.afterRegion_keeps (Layer0.dat (W1 m c) c) (W1 m c) winFacts0.arr_inj (Layer0.dat_A (W1 m c) c) r h

/-- The middle host operations leave what they do not write. -/
theorem W3_keeps (c : Dev nD) (r : Ref sig .tc) (h : r ∉ hostOps1_W) : W3 m c (Proc.devRef .tc r) = W2 m c (Proc.devRef .tc r) :=
  StableHlo.after_of_writes_sub hostOps1 (W2 m c) hostOps1_writes h

/-- The second grid changes its two output arrays only. -/
theorem W4_keeps (c : Dev nD) (r : Ref sig .tc) (h : ∀ w : Fin 9, Pipeline.arrRef spec1 w = r → (spec1 w).isOut = false) :
    W4 m c (Proc.devRef .tc r) = W3 m c (Proc.devRef .tc r) :=
  Pipeline.afterRegion_keeps (Layer1.dat (W3 m c) c) (W3 m c) winFacts1.arr_inj (Layer1.dat_A (W3 m c) c) r h

/-- The last host operations leave what they do not write. -/
theorem W5_keeps (c : Dev nD) (r : Ref sig .tc) (h : r ∉ hostOps2_W) : W5 m c (Proc.devRef .tc r) = W4 m c (Proc.devRef .tc r) :=
  StableHlo.after_of_writes_sub hostOps2 (W4 m c) hostOps2_writes h

/-- Nothing in the program writes `r`. -/
def Unwritten (r : Ref sig .tc) : Prop :=
  (r ∉ hostOps0_W ∧ r ∉ hostOps1_W ∧ r ∉ hostOps2_W)
    ∧ (∀ w : Fin 9, Pipeline.arrRef spec0 w = r → (spec0 w).isOut = false) ∧ ∀ w : Fin 9, Pipeline.arrRef spec1 w = r → (spec1 w).isOut = false

instance (r : Ref sig .tc) : Decidable (Unwritten r) := by unfold Unwritten; infer_instance

/-- What nothing writes is at the end as it was. -/
theorem kept (c : Dev nD) (r : Ref sig .tc) (h : Unwritten r) : W5 m c (Proc.devRef .tc r) = m ((c.tc : Thread nD τ).loc r) :=
  (W5_keeps m c r h.1.2.2).trans <| (W4_keeps m c r h.2.2).trans <| (W3_keeps m c r h.1.2.1).trans <|
    (W2_keeps m c r h.2.1).trans (W1_keeps m c r h.1.1)

/-- An argument is read, never written: it ends as it was. -/
theorem arg_kept (c : Dev nD) {s : MemSt nD τ sig (Elt F)}
    (hs : ∀ c : Dev nD, ∀ b : Ref sig .tc, b.isScoped = false → s.mem ((c.tc : Thread nD τ).loc b) = W5 m c (Proc.devRef .tc b))
    (r : Ref sig .tc) (h : r.isScoped = false ∧ Unwritten r) : s.mem ((c.tc : Thread nD τ).loc r) = m ((c.tc : Thread nD τ).loc r) :=
  (hs c r h.1).trans (kept m c r h.2)

/-- The frame over any values. -/
theorem frame (ρ : Dev nD → PrngReg) : FrameAt F m ρ :=
  (θ_run _ _ _).mono (fun _ h => ⟨fun c =>
    ⟨arg_kept m c h.1 main_arg0 (by decide), arg_kept m c h.1 main_arg1 (by decide), arg_kept m c h.1 main_arg2 (by decide),
      arg_kept m c h.1 main_arg3 (by decide), arg_kept m c h.1 main_arg4 (by decide), arg_kept m c h.1 main_arg5 (by decide),
      arg_kept m c h.1 main_arg6 (by decide), arg_kept m c h.1 main_arg7 (by decide), arg_kept m c h.1 main_arg8 (by decide),
      arg_kept m c h.1 main_arg9 (by decide), arg_kept m c h.1 main_arg10 (by decide)⟩, h.2⟩) (run m ρ)

end Cert.Gru

end
-- ==== Proof.RefFrame.lean ====
/- The reference terminates, leaves its arguments as they were, and has no counter. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Gru

open Idealize.ShloMosaic Idealize.SL.Sem

/-- The reference's frame. -/
theorem ref_frame : @Cert.quiescent_ReferenceIdeal Cert.ReferenceIdeal.Gen.facts := fun m g _ =>
  (θ_run _ _ _).mono (fun r h => ⟨fun c => (h c).2.2, sem_eq_zero_of_no_sems (by decide) r.2⟩) (Cert.ReferenceIdeal.Value.run m g)

end Cert.Gru

end
-- ==== Proof.Host.lean ====
/- What the host's operations hand the two launches, read at an index over the extended reals: each layer's weights transposed, its biases
   in one row, its initial state, the inputs and the masks. -/
module

public import proofs.«01_k».proof.Proof.Frame
public import Idealize.ShloMosaic.Lib.StableHlo.ReadAt
public import Idealize.ShloMosaic.Lib.Pipeline.ValueKit

@[expose] public section

set_option maxRecDepth 16384

noncomputable section

namespace Cert.Gru

open Idealize.ShloMosaic Idealize.ShloMosaic.TcCoe Idealize.SL.Sem
open Cert.KernelIdeal Cert.KernelIdeal.Gen

section stretch0

variable (V : Valuation τ sig (Elt Ideal))

theorem v26_at (r : Fin 8192) (k : Fin 1024) : (StableHlo.after hostOps0 V (Proc.devRef .tc main_v26) : FVec Ideal S8192x1024 .bf16) (ix2 r k)
    = (V (Proc.devRef .tc main_arg0) : FVec Ideal S8192x1024 .f32) (ix2 r k) := by
  after_reads_at

theorem v0_at (n : Fin 512) (i : Fin 16) : (StableHlo.after hostOps0 V (Proc.devRef .tc main_v0) : FVec Ideal S512x16x1 .f32) (ix3 n i 0)
    = (V (Proc.devRef .tc main_arg2) : FVec Ideal S8192x1 .f32) (ix2 ⟨16 * n.val + i.val, by omega⟩ 0) := by
  after_reads_at
  congr 2
  exact Fin.ext (by show n.val * 16 + i.val = 16 * n.val + i.val; omega)

theorem v28_at (k : Fin 1024) (c : Fin 3072) : (StableHlo.after hostOps0 V (Proc.devRef .tc main_v28) : FVec Ideal S1024x3072 .bf16) (ix2 k c)
    = (V (Proc.devRef .tc main_arg3) : FVec Ideal S3072x1024 .f32) (ix2 c k) := by
  repeat after_reads_at

theorem v30_at (k : Fin 1024) (c : Fin 3072) : (StableHlo.after hostOps0 V (Proc.devRef .tc main_v30) : FVec Ideal S1024x3072 .bf16) (ix2 k c)
    = (V (Proc.devRef .tc main_arg4) : FVec Ideal S3072x1024 .f32) (ix2 c k) := by
  repeat after_reads_at

theorem v32_at (c : Fin 3072) : (StableHlo.after hostOps0 V (Proc.devRef .tc main_v32) : FVec Ideal S1x3072 .f32) (ix2 0 c)
    = (V (Proc.devRef .tc main_arg5) : FVec Ideal S3072 .f32) (ix1 c) := by
  repeat after_reads_at

theorem v34_at (c : Fin 3072) : (StableHlo.after hostOps0 V (Proc.devRef .tc main_v34) : FVec Ideal S1x3072 .f32) (ix2 0 c)
    = (V (Proc.devRef .tc main_arg6) : FVec Ideal S3072 .f32) (ix1 c) := by
  repeat after_reads_at

theorem v36_at (i : Fin 16) (j : Fin 1024) : (StableHlo.after hostOps0 V (Proc.devRef .tc main_v36) : FVec Ideal S16x1024 .f32) (ix2 i j)
    = (V (Proc.devRef .tc main_arg1) : FVec Ideal S16x2x1024 .f32) (ix3 i 0 j) := by
  after_reads_at

theorem v11_at0 (k : Fin 1024) (c : Fin 3072) : (StableHlo.after hostOps0 V (Proc.devRef .tc main_v11) : FVec Ideal S2x2x1024x3072 .bf16) (ix4 1 0 k c)
    = (V (Proc.devRef .tc main_arg7) : FVec Ideal S3072x1024 .f32) (ix2 c k) := by
  repeat after_reads_at

theorem v11_at1 (k : Fin 1024) (c : Fin 3072) : (StableHlo.after hostOps0 V (Proc.devRef .tc main_v11) : FVec Ideal S2x2x1024x3072 .bf16) (ix4 1 1 k c)
    = (V (Proc.devRef .tc main_arg8) : FVec Ideal S3072x1024 .f32) (ix2 c k) := by
  repeat after_reads_at

theorem v24_at0 (c : Fin 3072) : (StableHlo.after hostOps0 V (Proc.devRef .tc main_v24) : FVec Ideal S2x2x1x3072 .f32) (ix4 1 0 0 c)
    = (V (Proc.devRef .tc main_arg9) : FVec Ideal S3072 .f32) (ix1 c) := by
  repeat after_reads_at

theorem v24_at1 (c : Fin 3072) : (StableHlo.after hostOps0 V (Proc.devRef .tc main_v24) : FVec Ideal S2x2x1x3072 .f32) (ix4 1 1 0 c)
    = (V (Proc.devRef .tc main_arg10) : FVec Ideal S3072 .f32) (ix1 c) := by
  repeat after_reads_at

theorem v25_at (i : Fin 16) (j : Fin 1024) : (StableHlo.after hostOps0 V (Proc.devRef .tc main_v25) : FVec Ideal S2x16x1024 .f32) (ix3 1 i j)
    = (V (Proc.devRef .tc main_arg1) : FVec Ideal S16x2x1024 .f32) (ix3 i 1 j) := by
  after_reads_at

theorem v39_at (k : Fin 1024) (c : Fin 3072) : (StableHlo.after hostOps1 V (Proc.devRef .tc main_v39) : FVec Ideal S1024x3072 .bf16) (ix2 k c)
    = (V (Proc.devRef .tc main_v11) : FVec Ideal S2x2x1024x3072 .bf16) (ix4 1 0 k c) := by
  after_reads_at

theorem v41_at (k : Fin 1024) (c : Fin 3072) : (StableHlo.after hostOps1 V (Proc.devRef .tc main_v41) : FVec Ideal S1024x3072 .bf16) (ix2 k c)
    = (V (Proc.devRef .tc main_v11) : FVec Ideal S2x2x1024x3072 .bf16) (ix4 1 1 k c) := by
  after_reads_at

theorem v43_at (c : Fin 3072) : (StableHlo.after hostOps1 V (Proc.devRef .tc main_v43) : FVec Ideal S1x3072 .f32) (ix2 0 c)
    = (V (Proc.devRef .tc main_v24) : FVec Ideal S2x2x1x3072 .f32) (ix4 1 0 0 c) := by
  after_reads_at

theorem v45_at (c : Fin 3072) : (StableHlo.after hostOps1 V (Proc.devRef .tc main_v45) : FVec Ideal S1x3072 .f32) (ix2 0 c)
    = (V (Proc.devRef .tc main_v24) : FVec Ideal S2x2x1x3072 .f32) (ix4 1 1 0 c) := by
  after_reads_at

theorem v47_at (i : Fin 16) (j : Fin 1024) : (StableHlo.after hostOps1 V (Proc.devRef .tc main_v47) : FVec Ideal S16x1024 .f32) (ix2 i j)
    = (V (Proc.devRef .tc main_v25) : FVec Ideal S2x16x1024 .f32) (ix3 1 i j) := by
  after_reads_at

theorem v51_at (i : Fin 16) (l : Fin 2) (j : Fin 1024) : (StableHlo.after hostOps2 V (Proc.devRef .tc main_v51) : FVec Ideal S16x2x1024 .f32) (ix3 i l j)
    = if l = 0 then (V (Proc.devRef .tc main_v37_1) : FVec Ideal S16x1024 .f32) (ix2 i j)
      else (V (Proc.devRef .tc main_v48_1) : FVec Ideal S16x1024 .f32) (ix2 i j) := by
  after_reads_at
  fin_cases l <;> rfl

end stretch0

end Cert.Gru

end
-- ==== Proof.Spec.lean ====
/- The recurrent network over plain matrices of extended reals: one step of a layer, and a layer run over its inputs. -/
module

public import Idealize.ShloMosaic.PureOps.Ideal
public import Idealize.ShloMosaic.Lib.Pointwise.Index

@[expose] public section

noncomputable section

namespace Cert.Gru

open Idealize.ShloMosaic

/-- A matrix of `a` rows and `b` columns. -/
abbrev Mat (a b : ℕ) := Fin a → Fin b → EReal

/-- Column `j` of the `o`-th third of the gates. -/
def col (o : Fin 3) (j : Fin 1024) : Fin 3072 := ⟨1024 * o.val + j.val, by omega⟩

/-- A half of the gates: the rows times the transposed weights, plus the biases. -/
def gate (x : Mat 16 1024) (w : Mat 3072 1024) (b : Fin 3072 → EReal) : Mat 16 3072 := fun i c => ∑ k, x i k * w c k + b c

/-- The state with each row multiplied by its mask. -/
def reset (h : Mat 16 1024) (k : Fin 16 → EReal) : Mat 16 1024 := fun i j => h i j * k i

/-- The new state from the two halves of the gates and the old state. -/
def update (gi gh : Mat 16 3072) (h : Mat 16 1024) : Mat 16 1024 := fun i j =>
  (1 - Ideal.logistic (gi i (col 1 j) + gh i (col 1 j)))
      * Ideal.tanh (gi i (col 2 j) + Ideal.logistic (gi i (col 0 j) + gh i (col 0 j)) * gh i (col 2 j))
    + Ideal.logistic (gi i (col 1 j) + gh i (col 1 j)) * h i j

/-- The weights and biases of a layer. -/
@[ext] structure Weights where
  /-- The input weights. -/
  wi : Mat 3072 1024
  /-- The state weights. -/
  wh : Mat 3072 1024
  /-- The input biases. -/
  bi : Fin 3072 → EReal
  /-- The state biases. -/
  bh : Fin 3072 → EReal

/-- One step of a layer: the inputs `x`, the state `h` reset by the masks `k`. -/
def step (w : Weights) (x : Mat 16 1024) (k : Fin 16 → EReal) (h : Mat 16 1024) : Mat 16 1024 :=
  update (gate x w.wi w.bi) (gate (reset h k) w.wh w.bh) (reset h k)

/-- The state of a layer after `n` steps, step `n` taking the inputs `xs n` and the masks `ks n`, from the state `h`. -/
def states (w : Weights) (xs : ℕ → Mat 16 1024) (ks : ℕ → Fin 16 → EReal) (h : Mat 16 1024) : ℕ → Mat 16 1024
  | 0 => h
  | n + 1 => step w (xs n) (ks n) (states w xs ks h n)

/-- Rows `16 n` to `16 n + 15` of a matrix of 8192 rows. -/
def rowsOf {b : ℕ} (X : Mat 8192 b) (n : ℕ) : Mat 16 b := fun i j => X ⟨(16 * n + i.val) % 8192, Nat.mod_lt _ (by decide)⟩ j

/-- Two runs of a layer agree up to step `N` where their inputs do. -/
theorem states_congr (w : Weights) {xs xs' : ℕ → Mat 16 1024} {ks ks' : ℕ → Fin 16 → EReal} {h h' : Mat 16 1024} (N : ℕ)
    (hx : ∀ n < N, xs n = xs' n) (hk : ∀ n < N, ks n = ks' n) (hh : h = h') : ∀ n ≤ N, states w xs ks h n = states w xs' ks' h' n
  | 0, _ => hh
  | n + 1, hn => by
    show step w (xs n) (ks n) _ = step w (xs' n) (ks' n) _
    rw [hx n hn, hk n hn, states_congr w N hx hk hh n (by omega)]

/-- What the network is given: the inputs, the initial states, the masks and the weights of its two layers. -/
@[ext] structure Data where
  /-- The inputs, sixteen rows a step. -/
  xs : Mat 8192 1024
  /-- The initial states of the two layers. -/
  hs : Fin 16 → Mat 2 1024
  /-- The masks, sixteen a step. -/
  ks : Fin 8192 → EReal
  /-- The first layer's weights. -/
  w0 : Weights
  /-- The second layer's weights. -/
  w1 : Weights

namespace Data

variable (d : Data)

/-- The masks of step `n`. -/
def mask (n : ℕ) (i : Fin 16) : EReal := d.ks ⟨(16 * n + i.val) % 8192, Nat.mod_lt _ (by decide)⟩

/-- The first layer's state after `n` steps. -/
def state0 : ℕ → Mat 16 1024 := states d.w0 (rowsOf d.xs) d.mask fun i j => d.hs i 0 j

/-- The second layer's state after `n` steps: its inputs are the first layer's new states. -/
def state1 : ℕ → Mat 16 1024 := states d.w1 (fun n => d.state0 (n + 1)) d.mask fun i j => d.hs i 1 j

/-- The network's outputs: the second layer's new states, one step below the other. -/
def output : Mat 8192 1024 := fun r j => d.state1 (r.val / 16 + 1) ⟨r.val % 16, Nat.mod_lt _ (by decide)⟩ j

/-- The states both layers end with. -/
def final (i : Fin 16) (l : Fin 2) (j : Fin 1024) : EReal := if l = 0 then d.state0 512 i j else d.state1 512 i j

end Data

/-- The network's data as the eleven arguments hold them. -/
def dataOf (x : FVec Ideal ⟨2, ![8192, 1024]⟩ .f32) (h : FVec Ideal ⟨3, ![16, 2, 1024]⟩ .f32) (k : FVec Ideal ⟨2, ![8192, 1]⟩ .f32)
    (wi0 wh0 : FVec Ideal ⟨2, ![3072, 1024]⟩ .f32) (bi0 bh0 : FVec Ideal ⟨1, ![3072]⟩ .f32)
    (wi1 wh1 : FVec Ideal ⟨2, ![3072, 1024]⟩ .f32) (bi1 bh1 : FVec Ideal ⟨1, ![3072]⟩ .f32) : Data where
  xs r j := x (ix2 r j)
  hs i l j := h (ix3 i l j)
  ks r := k (ix2 r 0)
  w0 := ⟨fun c j => wi0 (ix2 c j), fun c j => wh0 (ix2 c j), fun c => bi0 (ix1 c), fun c => bh0 (ix1 c)⟩
  w1 := ⟨fun c j => wi1 (ix2 c j), fun c j => wh1 (ix2 c j), fun c => bi1 (ix1 c), fun c => bh1 (ix1 c)⟩

end Cert.Gru

end
-- ==== Proof.CellAt.lean ====
/- The kernel's cell read at an index over the extended reals: it is the plain step. -/
module

public import proofs.«01_k».proof.Proof.Cell
public import proofs.«01_k».proof.Proof.Spec
public import Idealize.ShloMosaic.Lib.Pipeline.ValueKit

@[expose] public section

set_option maxRecDepth 16384

noncomputable section

namespace Cert.Gru

open Idealize.ShloMosaic Cert.KernelIdeal Cert.KernelIdeal.Facts₀

/-- The weights as the kernel holds them: transposed, the biases in one row. -/
def weightsOf (wi wh : Vec Ideal S1024x3072 .bf16) (bi bh : Vec Ideal S1x3072 .f32) : Weights :=
  ⟨fun c k => wi (ix2 k c), fun c k => wh (ix2 k c), fun c => bi (ix2 0 c), fun c => bh (ix2 0 c)⟩

/-- The input half of the gates at an index. -/
theorem gatesIn_at (x : Vec Ideal S256x1024 .bf16) (wi : Vec Ideal S1024x3072 .bf16) (bi : Vec Ideal S1x3072 .f32) (r : Fin 256) (c : Fin 3072) :
    gatesIn x wi bi (ix2 r c) = ∑ k, x (ix2 r k) * wi (ix2 k c) + bi (ix2 0 c) := by
  pointwise [gatesIn]

/-- The state half of the gates at an index. -/
theorem gatesState_at (wh : Vec Ideal S1024x3072 .bf16) (bh : Vec Ideal S1x3072 .f32) (h : FVec Ideal S16x1024 .f32) (i : Fin 16) (c : Fin 3072) :
    gatesState wh bh h (ix2 i c) = ∑ k, h (ix2 i k) * wh (ix2 k c) + bh (ix2 0 c) := by
  pointwise [gatesState]

/-- The masked state at an index. -/
theorem masked_at (h : FVec Ideal S16x1024 .f32) (k : Vec Ideal S1x16x1 .f32) (i : Fin 16) (j : Fin 1024) :
    masked h k (ix2 i j) = h (ix2 i j) * k (ix3 0 i 0) := by
  pointwise [masked]

/-- The combination at an index. -/
theorem combine_at (a b : FVec Ideal S16x3072 .f32) (h : FVec Ideal S16x1024 .f32) (i : Fin 16) (j : Fin 1024) :
    combine a b h (ix2 i j) = update (fun i c => a (ix2 i c)) (fun i c => b (ix2 i c)) (fun i j => h (ix2 i j)) i j := by
  pointwise [combine, update, col]

/-- One step of the kernel's cell is one plain step. -/
theorem cell_at (wh : Vec Ideal S1024x3072 .bf16) (bh : Vec Ideal S1x3072 .f32) (h : FVec Ideal S16x1024 .f32) (k : Vec Ideal S1x16x1 .f32)
    (a : FVec Ideal S16x3072 .f32) (i : Fin 16) (j : Fin 1024) :
    cell wh bh h k a (ix2 i j)
      = update (fun i c => a (ix2 i c))
          (gate (reset (fun i j => h (ix2 i j)) fun i => k (ix3 0 i 0)) (fun c k => wh (ix2 k c)) fun c => bh (ix2 0 c))
          (reset (fun i j => h (ix2 i j)) fun i => k (ix3 0 i 0)) i j := by
  unfold cell
  rw [combine_at]
  simp only [gatesState_at, masked_at]
  rfl

/-- The masks of one step at an index. -/
theorem maskRow_at (k : Vec Ideal S16x16x1 .f32) (b : ℕ) (i : Fin 16) :
    maskRow k b (ix3 0 i 0) = k (ix3 ⟨b % 16, Nat.mod_lt _ (by decide)⟩ i 0) := by
  unfold maskRow
  congr 1
  funext a
  fin_cases a <;> rfl

/-- Sixteen rows of a block of gates at an index. -/
theorem gateRows_at (g : FVec Ideal S256x3072 .f32) (o : ℕ) (i : Fin 16) (c : Fin 3072) :
    gateRows g o (ix2 i c) = g (ix2 ⟨(o + i.val) % 256, Nat.mod_lt _ (by decide)⟩ c) := by
  unfold gateRows
  congr 1
  funext a
  fin_cases a <;> rfl

/-- Sixteen blocks of rows at an index. -/
theorem rows16_at {e : EltTy} (w : ℕ → Vec Ideal S16x1024 e) (r : Fin 256) (j : Fin 1024) :
    rows16 w (ix2 r j) = w (r.val / 16) (ix2 ⟨r.val % 16, Nat.mod_lt _ (by decide)⟩ j) := by
  unfold rows16
  show w (r.val / 16) _ = _
  congr 1
  funext a
  fin_cases a <;> rfl

/-- A block of sixteen steps is sixteen plain steps: where the block's rows and masks are those of steps `16 n` on, and its state is the
    plain state after `16 n` steps, its states are the plain ones. -/
theorem stateAt_at (x : Vec Ideal S256x1024 .bf16) (k : Vec Ideal S16x16x1 .f32) (wi wh : Vec Ideal S1024x3072 .bf16) (bi bh : Vec Ideal S1x3072 .f32)
    (h : FVec Ideal S16x1024 .f32) (xs : ℕ → Mat 16 1024) (ks : ℕ → Fin 16 → EReal) (h₀ : Mat 16 1024) (n : ℕ)
    (hx : ∀ b < 16, ∀ i j, x (ix2 ⟨(16 * b + (i : Fin 16).val) % 256, Nat.mod_lt _ (by decide)⟩ j) = xs (16 * n + b) i j)
    (hk : ∀ b : Fin 16, ∀ i, k (ix3 b i 0) = ks (16 * n + b.val) i)
    (hh : ∀ i j, h (ix2 i j) = states (weightsOf wi wh bi bh) xs ks h₀ (16 * n) i j) :
    ∀ b ≤ 16, ∀ i j, stateAt x k wi wh bi bh h b (ix2 i j) = states (weightsOf wi wh bi bh) xs ks h₀ (16 * n + b) i j
  | 0, _, i, j => hh i j
  | b + 1, hb, i, j => by
    have ih := stateAt_at x k wi wh bi bh h xs ks h₀ n hx hk hh b (by omega)
    show cell wh bh (stateAt x k wi wh bi bh h b) (maskRow k b) (gateRows (gatesIn x wi bi) (16 * b)) (ix2 i j)
      = step (weightsOf wi wh bi bh) (xs (16 * n + b)) (ks (16 * n + b)) (states (weightsOf wi wh bi bh) xs ks h₀ (16 * n + b)) i j
    have hm : ∀ i, maskRow k b (ix3 0 i 0) = ks (16 * n + b) i := fun i => by
      rw [maskRow_at, hk]
      simp only [Nat.mod_eq_of_lt (show b < 16 by omega)]
    rw [cell_at]
    simp only [ih, hm, gateRows_at, gatesIn_at, hx b (by omega)]
    rfl

end Cert.Gru

end
-- ==== Proof.GridAt.lean ====
/- A layer over the extended reals, from its blocks: if each point's blocks are the sequence's rows and masks, the kernel's states are the
   plain ones. Stated once for both layers. -/
module

public import proofs.«01_k».proof.Proof.CellAt

@[expose] public section

set_option maxRecDepth 16384

noncomputable section

namespace Cert.Gru

open Idealize.ShloMosaic Idealize.ShloMosaic.TcCoe Idealize.SL.Sem
open Cert.KernelIdeal Cert.KernelIdeal.Gen

variable (X : FVec Ideal S8192x1024 .bf16) (K : FVec Ideal S512x16x1 .f32) (Wi Wh : FVec Ideal S1024x3072 .bf16)
  (Bi Bh : FVec Ideal S1x3072 .f32) (H : FVec Ideal S16x1024 .f32)

/-- The inputs of step `n`, in the whole sequence's rows. -/
def inputsOf (n : ℕ) : Mat 16 1024 := rowsOf (fun r j => X (ix2 r j)) n

/-- The masks of step `n`, in the whole sequence's masks. -/
def masksOf (n : ℕ) (i : Fin 16) : EReal := K (ix3 ⟨n % 512, Nat.mod_lt _ (by decide)⟩ i 0)

/-- The plain states of a layer, from the arrays its launch reads. -/
def plainOf : ℕ → Mat 16 1024 := states (weightsOf Wi Wh Bi Bh) (inputsOf X) (masksOf K) fun i j => H (ix2 i j)

/-- Plain states at equal places are equal. -/
theorem plainOf_congr {n n' : ℕ} {i i' : Fin 16} {j j' : Fin 1024} (hn : n = n') (hi : i.val = i'.val) (hj : j.val = j'.val) :
    plainOf X K Wi Wh Bi Bh H n i j = plainOf X K Wi Wh Bi Bh H n' i' j' := by
  rw [hn, Fin.ext hi, Fin.ext hj]

/-- Within a point whose blocks `x` and `k` are its rows and masks, the kernel's states are the plain ones. -/
theorem point_at {t : ℕ} (ht : t < 32) (x : FVec Ideal S256x1024 .bf16) (k : FVec Ideal S16x16x1 .f32) (h : FVec Ideal S16x1024 .f32)
    (hx : ∀ (r : Fin 256) (j : Fin 1024), x (ix2 r j) = X (ix2 ⟨256 * t + r.val, by omega⟩ j))
    (hk : ∀ b i : Fin 16, k (ix3 b i 0) = K (ix3 ⟨16 * t + b.val, by omega⟩ i 0))
    (hh : ∀ i j, h (ix2 i j) = plainOf X K Wi Wh Bi Bh H (16 * t) i j) (b : ℕ) (hb : b ≤ 16) (i : Fin 16) (j : Fin 1024) :
    stateAt x k Wi Wh Bi Bh h b (ix2 i j) = plainOf X K Wi Wh Bi Bh H (16 * t + b) i j := by
  refine stateAt_at _ _ _ _ _ _ _ (inputsOf X) (masksOf K) _ t (fun b hb i j => ?_) (fun b i => ?_) hh b hb i j
  · rw [hx]
    unfold inputsOf rowsOf
    congr 2
    apply Fin.ext
    show 256 * t + (16 * b + i.val) % 256 = (16 * (16 * t + b) + i.val) % 8192
    omega
  · rw [hk]
    unfold masksOf
    congr 2
    apply Fin.ext
    show 16 * t + b.val = (16 * t + b.val) % 512
    omega

/-- States that start at the initial one and follow the blocks' sixteen steps are the plain ones at every sixteenth step. -/
theorem states_at (x : ℕ → FVec Ideal S256x1024 .bf16) (k : ℕ → FVec Ideal S16x16x1 .f32) (S : ℕ → FVec Ideal S16x1024 .f32)
    (hx : ∀ (t : ℕ) (ht : t < 32) (r : Fin 256) (j : Fin 1024), x t (ix2 r j) = X (ix2 ⟨256 * t + r.val, by omega⟩ j))
    (hk : ∀ (t : ℕ) (ht : t < 32) (b i : Fin 16), k t (ix3 b i 0) = K (ix3 ⟨16 * t + b.val, by omega⟩ i 0))
    (h0 : S 0 = H) (hS : ∀ t, S (t + 1) = stateAt (x t) (k t) Wi Wh Bi Bh (S t) 16) :
    ∀ n ≤ 32, ∀ i j, S n (ix2 i j) = plainOf X K Wi Wh Bi Bh H (16 * n) i j
  | 0, _, i, j => by rw [h0]; rfl
  | n + 1, hn, i, j => by
    rw [hS]
    exact point_at X K Wi Wh Bi Bh H (by omega) (x n) (k n) (S n) (hx n (by omega)) (hk n (by omega))
      (states_at x k S hx hk h0 hS n (by omega)) 16 le_rfl i j

end Cert.Gru

end
-- ==== Proof.Out0.lean ====
/- The first layer's results over the extended reals: its rows are the plain states of its steps, and its final state the plain state
   after the last step. -/
module

public import proofs.«01_k».proof.Proof.Layer0
public import proofs.«01_k».proof.Proof.GridAt
public import Idealize.ShloMosaic.Lib.Pipeline.ValueKit

@[expose] public section

set_option maxRecDepth 16384

noncomputable section

namespace Cert.Gru.Layer0

open Idealize.ShloMosaic Idealize.ShloMosaic.TcCoe Idealize.SL.Sem
open Idealize.ShloMosaic.Pipeline (Dat)
open Cert.KernelIdeal Cert.KernelIdeal.Gen

variable (V : Valuation τ sig (Elt Ideal))

/-- The layer's weights, as the launch reads them. -/
def weights : Weights := weightsOf (V (Proc.devRef .tc main_v28)) (V (Proc.devRef .tc main_v30)) (V (Proc.devRef .tc main_v32)) (V (Proc.devRef .tc main_v34))

/-- The inputs of step `n`. -/
abbrev inputs (n : ℕ) : Mat 16 1024 := inputsOf (V (Proc.devRef .tc main_v26)) n

/-- The masks of step `n`. -/
abbrev masks (n : ℕ) (i : Fin 16) : EReal := masksOf (V (Proc.devRef .tc main_v0)) n i

/-- The plain states of the layer. -/
abbrev plain : ℕ → Mat 16 1024 :=
  plainOf (V (Proc.devRef .tc main_v26)) (V (Proc.devRef .tc main_v0)) (V (Proc.devRef .tc main_v28)) (V (Proc.devRef .tc main_v30)) (V (Proc.devRef .tc main_v32)) (V (Proc.devRef .tc main_v34)) (V (Proc.devRef .tc main_v36))

/-- They are the states of the layer's weights, inputs and masks, from its initial state. -/
theorem plain_eq : plain V = states (weights V) (inputs V) (masks V)
    fun i j => (V (Proc.devRef .tc main_v36) : FVec Ideal S16x1024 .f32) (ix2 i j) := rfl

/-- Where each window's block lies at point `t`. -/
theorem places : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![0, 0] :=
  (by decide +kernel : ∀ t : Fin grid0.N, _)

theorem x_at (t : Fin cfg0.N) (r : Fin 256) (k : Fin 1024) :
    xB V t (ix2 r k) = (V (Proc.devRef .tc main_v26) : FVec Ideal S8192x1024 .bf16)
      (ix2 ⟨256 * t.val + r.val, by have := lt_of_lt_of_eq t.isLt (show cfg0.N = 32 from N_0); omega⟩ k) := by
  blk_ext! [iblk, places t]

theorem k_at (t : Fin cfg0.N) (b i : Fin 16) :
    kB V t (ix3 b i 0) = (V (Proc.devRef .tc main_v0) : FVec Ideal S512x16x1 .f32)
      (ix3 ⟨16 * t.val + b.val, by have := lt_of_lt_of_eq t.isLt (show cfg0.N = 32 from N_0); omega⟩ i 0) := by
  blk_ext! [iblk, places t]

theorem wi_eq (t : Fin cfg0.N) : wiB V t = V (Proc.devRef .tc main_v28) := by blk_ext! [iblk, places t]
theorem wh_eq (t : Fin cfg0.N) : whB V t = V (Proc.devRef .tc main_v30) := by blk_ext! [iblk, places t]
theorem bi_eq (t : Fin cfg0.N) : biB V t = V (Proc.devRef .tc main_v32) := by blk_ext! [iblk, places t]
theorem bh_eq (t : Fin cfg0.N) : bhB V t = V (Proc.devRef .tc main_v34) := by blk_ext! [iblk, places t]
theorem h_eq (t : Fin cfg0.N) : hB V t = V (Proc.devRef .tc main_v36) := by blk_ext! [iblk, places t]

/-- The state before each point is the plain one. -/
theorem hAt_at : ∀ n ≤ 32, ∀ i j, hAt V n (ix2 i j) = plain V (16 * n) i j := by
  have e : ∀ t < 32, (pt t).val = t := fun t ht => Nat.mod_eq_of_lt ht
  refine states_at _ _ _ _ _ _ _ (fun t => xB V (pt t)) (fun t => kB V (pt t)) (hAt V) (fun t ht r j => ?_) (fun t ht b i => ?_) (h_eq V (pt 0))
    fun t => ?_
  · rw [x_at]; simp only [e t ht]
  · rw [k_at]; simp only [e t ht]
  · rw [hAt, wi_eq, wh_eq, bi_eq, bh_eq]

/-- The rows a point writes, at an index. -/
theorem yAt_at (t : Fin cfg0.N) (r : Fin 256) (j : Fin 1024) :
    yAt V t (ix2 r j) = plain V (16 * t.val + (r.val / 16 + 1)) ⟨r.val % 16, Nat.mod_lt _ (by decide)⟩ j := by
  have ht := lt_of_lt_of_eq t.isLt (show cfg0.N = 32 from N_0)
  have hr := r.isLt
  unfold yAt yBlock0
  rw [rows16_at]
  rw [wi_eq, wh_eq, bi_eq, bh_eq]
  exact point_at _ _ _ _ _ _ _ ht _ _ _ (x_at V t) (k_at V t) (hAt_at V t.val (by omega)) (r.val / 16 + 1) (by omega) _ j

/-- The rows the layer writes: row `r` is row `r % 16` of the state after step `r / 16`. -/
theorem rows (c : Dev nD) : (dat V c).arrAt 7 cfg0.N
    = (fun y => plain V ((y 0).val / 16 + 1) ⟨(y 0).val % 16, Nat.mod_lt _ (by decide)⟩ (y 1) : FVec Ideal S8192x1024 .bf16) := by
  refine (dat V c).arrAt_eq_of_covers 7 _ (by decide +kernel) fun t _ y => ?_
  have ht := lt_of_lt_of_eq t.isLt (show cfg0.N = 32 from N_0)
  have h0 : (y 0).val < 256 := (y 0).isLt
  have h1 : ((win0_7.blk t).view.emb y 1).val = (y 1).val := by blk_simp [places t]
  blk_simp [places t]
  rw [after7]
  refine (congrArg (yAt V t) (eq_ix2 (n0 := 256) (n1 := 1024) y)).trans ((yAt_at V t (y 0) (y 1)).trans ?_)
  exact plainOf_congr _ _ _ _ _ _ _ (by omega) (by show (y 0).val % 16 = (t.val * 256 + (y 0).val) % 16; omega) h1.symm

/-- The state the layer ends with. -/
theorem final (c : Dev nD) : (dat V c).arrAt 8 cfg0.N
    = (fun y => plain V 512 (y 0) (y 1) : FVec Ideal S16x1024 .f32) := by
  refine (dat V c).arrAt_eq_of_covers 8 _ (by decide +kernel) fun t hf y => ?_
  have ht := lt_of_lt_of_eq t.isLt (show cfg0.N = 32 from N_0)
  have hm : t.val % 32 = 31 := (flush0_8 t).mp hf
  have h0 : ((win0_8.blk t).view.emb y 0).val = (y 0).val := by blk_simp [places t]
  have h1 : ((win0_8.blk t).view.emb y 1).val = (y 1).val := by blk_simp [places t]
  blk_simp [places t]
  rw [after8]
  refine (congrArg (hAt V (t.val + 1)) (eq_ix2 (n0 := 16) (n1 := 1024) y)).trans ((hAt_at V (t.val + 1) (by omega) (y 0) (y 1)).trans ?_)
  exact plainOf_congr _ _ _ _ _ _ _ (by omega) h0.symm h1.symm

end Cert.Gru.Layer0

end
-- ==== Proof.Out1.lean ====
/- The second layer's results over the extended reals: its rows are the plain states of its steps, and its final state the plain state
   after the last step. -/
module

public import proofs.«01_k».proof.Proof.Layer1
public import proofs.«01_k».proof.Proof.GridAt
public import Idealize.ShloMosaic.Lib.Pipeline.ValueKit

@[expose] public section

set_option maxRecDepth 16384

noncomputable section

namespace Cert.Gru.Layer1

open Idealize.ShloMosaic Idealize.ShloMosaic.TcCoe Idealize.SL.Sem
open Idealize.ShloMosaic.Pipeline (Dat)
open Cert.KernelIdeal Cert.KernelIdeal.Gen

variable (V : Valuation τ sig (Elt Ideal))

/-- The layer's weights, as the launch reads them. -/
def weights : Weights := weightsOf (V (Proc.devRef .tc main_v39)) (V (Proc.devRef .tc main_v41)) (V (Proc.devRef .tc main_v43)) (V (Proc.devRef .tc main_v45))

/-- The inputs of step `n`. -/
abbrev inputs (n : ℕ) : Mat 16 1024 := inputsOf (V (Proc.devRef .tc main_v37_0)) n

/-- The masks of step `n`. -/
abbrev masks (n : ℕ) (i : Fin 16) : EReal := masksOf (V (Proc.devRef .tc main_v0)) n i

/-- The plain states of the layer. -/
abbrev plain : ℕ → Mat 16 1024 :=
  plainOf (V (Proc.devRef .tc main_v37_0)) (V (Proc.devRef .tc main_v0)) (V (Proc.devRef .tc main_v39)) (V (Proc.devRef .tc main_v41)) (V (Proc.devRef .tc main_v43)) (V (Proc.devRef .tc main_v45)) (V (Proc.devRef .tc main_v47))

/-- They are the states of the layer's weights, inputs and masks, from its initial state. -/
theorem plain_eq : plain V = states (weights V) (inputs V) (masks V)
    fun i j => (V (Proc.devRef .tc main_v47) : FVec Ideal S16x1024 .f32) (ix2 i j) := rfl

/-- Where each window's block lies at point `t`. -/
theorem places : ∀ t : Fin cfg1.N, win1_0.index t = ![t.val, 0] ∧ win1_1.index t = ![t.val, 0, 0] ∧ win1_2.index t = ![0, 0]
    ∧ win1_3.index t = ![0, 0] ∧ win1_4.index t = ![0, 0] ∧ win1_5.index t = ![0, 0] ∧ win1_6.index t = ![0, 0]
    ∧ win1_7.index t = ![t.val, 0] ∧ win1_8.index t = ![0, 0] :=
  (by decide +kernel : ∀ t : Fin grid1.N, _)

theorem x_at (t : Fin cfg1.N) (r : Fin 256) (k : Fin 1024) :
    xB V t (ix2 r k) = (V (Proc.devRef .tc main_v37_0) : FVec Ideal S8192x1024 .bf16)
      (ix2 ⟨256 * t.val + r.val, by have := lt_of_lt_of_eq t.isLt (show cfg1.N = 32 from N_1); omega⟩ k) := by
  blk_ext! [iblk, places t]

theorem k_at (t : Fin cfg1.N) (b i : Fin 16) :
    kB V t (ix3 b i 0) = (V (Proc.devRef .tc main_v0) : FVec Ideal S512x16x1 .f32)
      (ix3 ⟨16 * t.val + b.val, by have := lt_of_lt_of_eq t.isLt (show cfg1.N = 32 from N_1); omega⟩ i 0) := by
  blk_ext! [iblk, places t]

theorem wi_eq (t : Fin cfg1.N) : wiB V t = V (Proc.devRef .tc main_v39) := by blk_ext! [iblk, places t]
theorem wh_eq (t : Fin cfg1.N) : whB V t = V (Proc.devRef .tc main_v41) := by blk_ext! [iblk, places t]
theorem bi_eq (t : Fin cfg1.N) : biB V t = V (Proc.devRef .tc main_v43) := by blk_ext! [iblk, places t]
theorem bh_eq (t : Fin cfg1.N) : bhB V t = V (Proc.devRef .tc main_v45) := by blk_ext! [iblk, places t]
theorem h_eq (t : Fin cfg1.N) : hB V t = V (Proc.devRef .tc main_v47) := by blk_ext! [iblk, places t]

/-- The state before each point is the plain one. -/
theorem hAt_at : ∀ n ≤ 32, ∀ i j, hAt V n (ix2 i j) = plain V (16 * n) i j := by
  have e : ∀ t < 32, (pt t).val = t := fun t ht => Nat.mod_eq_of_lt ht
  refine states_at _ _ _ _ _ _ _ (fun t => xB V (pt t)) (fun t => kB V (pt t)) (hAt V) (fun t ht r j => ?_) (fun t ht b i => ?_) (h_eq V (pt 0))
    fun t => ?_
  · rw [x_at]; simp only [e t ht]
  · rw [k_at]; simp only [e t ht]
  · rw [hAt, wi_eq, wh_eq, bi_eq, bh_eq]

/-- The rows a point writes, at an index. -/
theorem yAt_at (t : Fin cfg1.N) (r : Fin 256) (j : Fin 1024) :
    yAt V t (ix2 r j) = plain V (16 * t.val + (r.val / 16 + 1)) ⟨r.val % 16, Nat.mod_lt _ (by decide)⟩ j := by
  have ht := lt_of_lt_of_eq t.isLt (show cfg1.N = 32 from N_1)
  have hr := r.isLt
  unfold yAt yBlock1
  rw [rows16_at]
  rw [wi_eq, wh_eq, bi_eq, bh_eq]
  exact point_at _ _ _ _ _ _ _ ht _ _ _ (x_at V t) (k_at V t) (hAt_at V t.val (by omega)) (r.val / 16 + 1) (by omega) _ j

/-- The rows the layer writes: row `r` is row `r % 16` of the state after step `r / 16`. -/
theorem rows (c : Dev nD) : (dat V c).arrAt 7 cfg1.N
    = (fun y => plain V ((y 0).val / 16 + 1) ⟨(y 0).val % 16, Nat.mod_lt _ (by decide)⟩ (y 1) : FVec Ideal S8192x1024 .f32) := by
  refine (dat V c).arrAt_eq_of_covers 7 _ (by decide +kernel) fun t _ y => ?_
  have ht := lt_of_lt_of_eq t.isLt (show cfg1.N = 32 from N_1)
  have h0 : (y 0).val < 256 := (y 0).isLt
  have h1 : ((win1_7.blk t).view.emb y 1).val = (y 1).val := by blk_simp [places t]
  blk_simp [places t]
  rw [after7]
  refine (congrArg (yAt V t) (eq_ix2 (n0 := 256) (n1 := 1024) y)).trans ((yAt_at V t (y 0) (y 1)).trans ?_)
  exact plainOf_congr _ _ _ _ _ _ _ (by omega) (by show (y 0).val % 16 = (t.val * 256 + (y 0).val) % 16; omega) h1.symm

/-- The state the layer ends with. -/
theorem final (c : Dev nD) : (dat V c).arrAt 8 cfg1.N
    = (fun y => plain V 512 (y 0) (y 1) : FVec Ideal S16x1024 .f32) := by
  refine (dat V c).arrAt_eq_of_covers 8 _ (by decide +kernel) fun t hf y => ?_
  have ht := lt_of_lt_of_eq t.isLt (show cfg1.N = 32 from N_1)
  have hm : t.val % 32 = 31 := (flush1_8 t).mp hf
  have h0 : ((win1_8.blk t).view.emb y 0).val = (y 0).val := by blk_simp [places t]
  have h1 : ((win1_8.blk t).view.emb y 1).val = (y 1).val := by blk_simp [places t]
  blk_simp [places t]
  rw [after8]
  refine (congrArg (hAt V (t.val + 1)) (eq_ix2 (n0 := 16) (n1 := 1024) y)).trans ((hAt_at V (t.val + 1) (by omega) (y 0) (y 1)).trans ?_)
  exact plainOf_congr _ _ _ _ _ _ _ (by omega) h0.symm h1.symm

end Cert.Gru.Layer1

end
-- ==== Proof.Result.lean ====
/- What the kernel leaves in its two results over the extended reals: the network's outputs and its final states. -/
module

public import proofs.«01_k».proof.Proof.Host
public import proofs.«01_k».proof.Proof.Out0
public import proofs.«01_k».proof.Proof.Out1

@[expose] public section

set_option maxRecDepth 16384

noncomputable section

namespace Cert.Gru

open Idealize.ShloMosaic Idealize.ShloMosaic.TcCoe Idealize.SL.Sem
open Cert.KernelIdeal Cert.KernelIdeal.Gen

variable (m : (ℓ : Loc nD τ sig) → Buf (Elt Ideal) ℓ)

/-- The network's data in the kernel's arguments. -/
def data (c : Dev nD) : Data :=
  dataOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The first launch reads the first layer's weights. -/
theorem weights0 (c : Dev nD) : Layer0.weights (W1 m c) = (data m c).w0 :=
   Weights.ext (funext fun e => funext fun k => v28_at (V0 m c) k e) (funext fun e => funext fun k => v30_at (V0 m c) k e)
    (funext fun e => v32_at (V0 m c) e) (funext fun e => v34_at (V0 m c) e)

/-- The masks the host hands both launches. -/
theorem masks0 (c : Dev nD) : Layer0.masks (W1 m c) = (data m c).mask := by
  funext n i
  unfold Layer0.masks masksOf W1
  rw [v0_at]
  unfold Data.mask
  show (m ((c.tc : Thread nD τ).loc main_arg2) : FVec Ideal S8192x1 .f32) (ix2 _ 0) = (m ((c.tc : Thread nD τ).loc main_arg2) : FVec Ideal S8192x1 .f32) (ix2 _ 0)
  congr 2
  exact Fin.ext (by show 16 * (n % 512) + i.val = (16 * n + i.val) % 8192; omega)

/-- The first launch's states are the first layer's. -/
theorem plain0 (c : Dev nD) : Layer0.plain (W1 m c) = (data m c).state0 := by
  funext n
  rw [Layer0.plain_eq]
  unfold Data.state0
  rw [weights0, masks0]
  refine congrFun (congrArg₂ (fun xs h => states (data m c).w0 xs (data m c).mask h) ?_ ?_) _
  · funext n i j
    exact v26_at (V0 m c) _ j
  · funext i j
    exact v36_at (V0 m c) i j

/-- A buffer the second stretch of host operations and the first launch leave alone reads as the first stretch left it. -/
theorem W2_W1 (c : Dev nD) (r : Ref sig .tc) (h : ∀ w : Fin 9, Pipeline.arrRef spec0 w = r → (spec0 w).isOut = false) :
    W2 m c (Proc.devRef .tc r) = StableHlo.after hostOps0 (V0 m c) (Proc.devRef .tc r) := W2_keeps m c r h

set_option maxHeartbeats 800000 in
/-- The second launch reads the second layer's weights. -/
theorem weights1 (c : Dev nD) : Layer1.weights (W3 m c) = (data m c).w1 := by
  have h11 : ∀ j, (W2 m c (Proc.devRef .tc main_v11) : FVec Ideal S2x2x1024x3072 .bf16) j
      = (StableHlo.after hostOps0 (V0 m c) (Proc.devRef .tc main_v11) : FVec Ideal S2x2x1024x3072 .bf16) j := congrFun (W2_W1 m c main_v11 (by decide))
  have h24 : ∀ j, (W2 m c (Proc.devRef .tc main_v24) : FVec Ideal S2x2x1x3072 .f32) j
      = (StableHlo.after hostOps0 (V0 m c) (Proc.devRef .tc main_v24) : FVec Ideal S2x2x1x3072 .f32) j := congrFun (W2_W1 m c main_v24 (by decide))
  refine Weights.ext (funext fun e => funext fun k => ?_) (funext fun e => funext fun k => ?_) (funext fun e => ?_) (funext fun e => ?_)
  · exact (v39_at (W2 m c) k e).trans ((h11 (ix4 1 0 k e)).trans (v11_at0 (V0 m c) k e))
  · exact (v41_at (W2 m c) k e).trans ((h11 (ix4 1 1 k e)).trans (v11_at1 (V0 m c) k e))
  · exact (v43_at (W2 m c) e).trans ((h24 (ix4 1 0 0 e)).trans (v24_at0 (V0 m c) e))
  · exact (v45_at (W2 m c) e).trans ((h24 (ix4 1 1 0 e)).trans (v24_at1 (V0 m c) e))

/-- The second launch reads the same masks. -/
theorem masks1 (c : Dev nD) : Layer1.masks (W3 m c) = (data m c).mask := by
  rw [← masks0]
  unfold Layer1.masks Layer0.masks masksOf
  rw [W3_keeps m c main_v0 (by decide), W2_keeps m c main_v0 (by decide)]

/-- The first launch's rows. -/
theorem W2_rows (c : Dev nD) : W2 m c (Proc.devRef .tc main_v37_0)
    = (fun y => (data m c).state0 ((y 0).val / 16 + 1) ⟨(y 0).val % 16, Nat.mod_lt _ (by decide)⟩ (y 1) : FVec Ideal S8192x1024 .bf16) := by
  rw [← plain0]
  exact (Pipeline.afterRegion_arr (Layer0.dat (W1 m c) c) (W1 m c) winFacts0.arr_inj 7).trans (Layer0.rows (W1 m c) c)

/-- The first launch's final state. -/
theorem W2_final (c : Dev nD) : W2 m c (Proc.devRef .tc main_v37_1)
    = (fun y => (data m c).state0 512 (y 0) (y 1) : FVec Ideal S16x1024 .f32) := by
  rw [← plain0]
  exact (Pipeline.afterRegion_arr (Layer0.dat (W1 m c) c) (W1 m c) winFacts0.arr_inj 8).trans (Layer0.final (W1 m c) c)

/-- The second launch takes the first layer's new states as its inputs. -/
theorem inputs1 (c : Dev nD) (n : ℕ) (hn : n < 512) : Layer1.inputs (W3 m c) n = (data m c).state0 (n + 1) := by
  funext i j
  unfold Layer1.inputs inputsOf rowsOf
  rw [W3_keeps m c main_v37_0 (by decide), W2_rows]
  have hi := i.isLt
  show (data m c).state0 ((16 * n + i.val) % 8192 / 16 + 1) ⟨(16 * n + i.val) % 8192 % 16, _⟩ j = (data m c).state0 (n + 1) i j
  have e1 : (16 * n + i.val) % 8192 / 16 = n := by omega
  have e2 : (⟨(16 * n + i.val) % 8192 % 16, Nat.mod_lt _ (by decide)⟩ : Fin 16) = i := Fin.ext (by show (16 * n + i.val) % 8192 % 16 = i.val; omega)
  rw [e1, e2]

/-- The second launch's states are the second layer's. -/
theorem plain1 (c : Dev nD) (n : ℕ) (hn : n ≤ 512) : Layer1.plain (W3 m c) n = (data m c).state1 n := by
  rw [Layer1.plain_eq]
  unfold Data.state1
  rw [weights1, masks1]
  refine states_congr _ 512 (inputs1 m c) (fun _ _ => rfl) ?_ n hn
  funext i j
  exact (v47_at (W2 m c) i j).trans ((congrFun (W2_W1 m c main_v25 (by decide)) _).trans (v25_at (V0 m c) i j))

/-- The kernel's first result: the network's outputs. -/
theorem kernel_output (c : Dev nD) : W5 m c (Proc.devRef .tc main_v48_0)
    = (fun y => (data m c).output (y 0) (y 1) : FVec Ideal S8192x1024 .f32) := by
  rw [W5_keeps m c main_v48_0 (by decide)]
  refine (Pipeline.afterRegion_arr (Layer1.dat (W3 m c) c) (W3 m c) winFacts1.arr_inj 7).trans ((Layer1.rows (W3 m c) c).trans ?_)
  funext y
  have hy : (y 0).val < 8192 := (y 0).isLt
  rw [plain1 m c _ (by omega)]
  rfl

/-- The kernel's second result: the states both layers end with. -/
theorem kernel_final (c : Dev nD) : W5 m c (Proc.devRef .tc main_v51)
    = (fun y => (data m c).final (y 0) (y 1) (y 2) : FVec Ideal S16x2x1024 .f32) := by
  have h1 : W4 m c (Proc.devRef .tc main_v48_1) = (fun y => (data m c).state1 512 (y 0) (y 1) : FVec Ideal S16x1024 .f32) := by
    refine (Pipeline.afterRegion_arr (Layer1.dat (W3 m c) c) (W3 m c) winFacts1.arr_inj 8).trans ((Layer1.final (W3 m c) c).trans ?_)
    rw [plain1 m c 512 le_rfl]
  have h0 : W4 m c (Proc.devRef .tc main_v37_1) = (fun y => (data m c).state0 512 (y 0) (y 1) : FVec Ideal S16x1024 .f32) := by
    rw [W4_keeps m c main_v37_1 (by decide), W3_keeps m c main_v37_1 (by decide), W2_final]
  funext y
  refine (congrArg (W5 m c (Proc.devRef .tc main_v51)) (eq_ix3 (n0 := 16) (n1 := 2) (n2 := 1024) y)).trans ((v51_at (W4 m c) (y 0) (y 1) (y 2)).trans ?_)
  rw [h0, h1]
  rfl

end Cert.Gru

end
-- ==== Proof.RefStep.lean ====
/- One trip of the reference's loop over the extended reals: on plain arrays, at an index, it is the plain step of both layers. -/
module

public import proofs.«01_k».proof.Proof.Spec
public import proofs.«01_k».proof.Proof.Gen.ReferenceIdeal.Run
public import Idealize.ShloMosaic.Lib.Pipeline.ValueKit

@[expose] public section

set_option maxRecDepth 16384

noncomputable section

namespace Cert.Gru

open Idealize.ShloMosaic Cert.ReferenceIdeal Cert.ReferenceIdeal.Gen

/-- The slice of the inputs at a step. -/
def xRow (x : FVec Ideal S512x16x1024 .f32) (st : Fin 3 → ℤ) : FVec Ideal S16x1024 .f32 :=
  shapeCast S16x1024 (Host.dynamicSlice S1x16x1024 x st sliceFits_S512x16x1024_S1x16x1024) shapeCasts_S1x16x1024_S16x1024

/-- The states with each row multiplied by its mask of a step. -/
def masked2 (h : FVec Ideal S2x16x1024 .f32) (k : FVec Ideal S512x16x1 .f32) (st : Fin 3 → ℤ) : FVec Ideal S2x16x1024 .f32 :=
  mulf h (broadcastInDim S2x16x1024 ![0, 1, 2] bcast_S1x16x1_S2x16x1024_0_1_2 (broadcastInDim S1x16x1 ![1, 2] bcast_S16x1_S1x16x1_1_2
    (shapeCast S16x1 (Host.dynamicSlice S1x16x1 k st sliceFits_S512x16x1_S1x16x1) shapeCasts_S1x16x1_S16x1)))

/-- A half of the gates. -/
def refGate (x : FVec Ideal S16x1024 .f32) (w : FVec Ideal S3072x1024 .f32) (b : FVec Ideal S3072 .f32) : FVec Ideal S16x3072 .f32 :=
  addf (Host.dotGeneral dot_S16x1024_S1024x3072_S16x3072_1_0_0_1_n_n none x (transpose S1024x3072 [1, 0] w transposes_S3072x1024_S1024x3072_1_0))
    (broadcastInDim S16x3072 ![0, 1] bcast_S1x3072_S16x3072_0_1 (broadcastInDim S1x3072 ![1] bcast_S3072_S1x3072_1 b))

/-- Ones. -/
def ones : FVec Ideal S16x1024 .f32 := broadcastInDim S16x1024 ![] bcast_S_S16x1024 (constant S_ .f32 0x3F800000#32)

/-- The logistic function, spelt out. -/
def refLogistic (x : FVec Ideal S16x1024 .f32) : FVec Ideal S16x1024 .f32 := Host.divf ones (addf ones (Host.exp (Host.negf x)))

/-- The new state from the two halves of the gates and the old state. -/
def refUpdate (gi gh : FVec Ideal S16x3072 .f32) (h : FVec Ideal S16x1024 .f32) : FVec Ideal S16x1024 .f32 :=
  have z := refLogistic (addf (extractStridedSlice S16x1024 ![0, 1024] gi slices_S16x3072_S16x1024_0_1024)
    (extractStridedSlice S16x1024 ![0, 1024] gh slices_S16x3072_S16x1024_0_1024))
  addf (mulf (subf ones z) (Host.tanh (addf (extractStridedSlice S16x1024 ![0, 2048] gi slices_S16x3072_S16x1024_0_2048)
    (mulf (refLogistic (addf (extractStridedSlice S16x1024 ![0, 0] gi slices_S16x3072_S16x1024_0_0)
      (extractStridedSlice S16x1024 ![0, 0] gh slices_S16x3072_S16x1024_0_0)))
      (extractStridedSlice S16x1024 ![0, 2048] gh slices_S16x3072_S16x1024_0_2048))))) (mulf z h)

/-- The outputs with one step's rows written in. -/
def putRow (o : FVec Ideal S512x16x1024 .f32) (h : FVec Ideal S16x1024 .f32) (st : Fin 3 → ℤ) : FVec Ideal S512x16x1024 .f32 :=
  Host.dynamicUpdateSlice o (broadcastInDim S1x16x1024 ![1, 2] bcast_S16x1024_S1x16x1024_1_2 h) st updateFits_S512x16x1024_S1x16x1024

section at_index

variable (st : Fin 3 → ℤ) (k : ℕ) (hk : k < 512) (h0 : st 0 = k) (h1 : st 1 = 0) (h2 : st 2 = 0)

include h0 h1 h2 in
/-- The slice at step `k` is row block `k` of the inputs. -/
theorem xRow_at (x : FVec Ideal S512x16x1024 .f32) (i : Fin 16) (j : Fin 1024) : xRow x st (ix2 i j) = x (ix3 ⟨k, hk⟩ i j) := by
  have c0 := Host.clampedStart_of_le (s := S512x16x1024) (t := S1x16x1024) sliceFits_S512x16x1024_S1x16x1024.1 st 0 k h0 (show k + 1 ≤ 512 by omega)
  have c1 := Host.clampedStart_of_le (s := S512x16x1024) (t := S1x16x1024) sliceFits_S512x16x1024_S1x16x1024.1 st 1 0 h1 (by decide)
  have c2 := Host.clampedStart_of_le (s := S512x16x1024) (t := S1x16x1024) sliceFits_S512x16x1024_S1x16x1024.1 st 2 0 h2 (by decide)
  pointwise [xRow]
  simp only [c0, c1, c2, Nat.zero_add]

include h0 h1 h2 in
/-- At step `k` the states are multiplied by the masks of step `k`. -/
theorem masked2_at (h : FVec Ideal S2x16x1024 .f32) (m : FVec Ideal S512x16x1 .f32) (l : Fin 2) (i : Fin 16) (j : Fin 1024) :
    masked2 h m st (ix3 l i j) = h (ix3 l i j) * m (ix3 ⟨k, hk⟩ i 0) := by
  have c0 := Host.clampedStart_of_le (s := S512x16x1) (t := S1x16x1) sliceFits_S512x16x1_S1x16x1.1 st 0 k h0 (show k + 1 ≤ 512 by omega)
  have c1 := Host.clampedStart_of_le (s := S512x16x1) (t := S1x16x1) sliceFits_S512x16x1_S1x16x1.1 st 1 0 h1 (by decide)
  have c2 := Host.clampedStart_of_le (s := S512x16x1) (t := S1x16x1) sliceFits_S512x16x1_S1x16x1.1 st 2 0 h2 (by decide)
  pointwise [masked2]
  simp only [c0, c1, c2, Nat.zero_add]
  rfl

include hk h0 h1 h2 in
/-- At step `k` the new rows land in row block `k`, and every other block stays. -/
theorem putRow_at (o : FVec Ideal S512x16x1024 .f32) (h : FVec Ideal S16x1024 .f32) (t : Fin 512) (i : Fin 16) (j : Fin 1024) :
    putRow o h st (ix3 t i j) = if t.val = k then h (ix2 i j) else o (ix3 t i j) := by
  have c0 := Host.clampedStart_of_le (s := S512x16x1024) (t := S1x16x1024) updateFits_S512x16x1024_S1x16x1024.1 st 0 k h0 (show k + 1 ≤ 512 by omega)
  have c1 := Host.clampedStart_of_le (s := S512x16x1024) (t := S1x16x1024) updateFits_S512x16x1024_S1x16x1024.1 st 1 0 h1 (by decide)
  have c2 := Host.clampedStart_of_le (s := S512x16x1024) (t := S1x16x1024) updateFits_S512x16x1024_S1x16x1024.1 st 2 0 h2 (by decide)
  pointwise [putRow]
  simp only [c0, c1, c2, Nat.sub_zero]
  by_cases ht : t.val = k
  · rw [dif_pos ⟨⟨by omega, by omega⟩, ⟨by omega, by omega⟩, by omega, by omega⟩, if_pos ht]
  · rw [dif_neg (fun hn => ht (by omega)), if_neg ht]

end at_index

/-- A half of the gates at an index. -/
theorem refGate_at (x : FVec Ideal S16x1024 .f32) (w : FVec Ideal S3072x1024 .f32) (b : FVec Ideal S3072 .f32) (i : Fin 16) (c : Fin 3072) :
    refGate x w b (ix2 i c) = gate (fun i j => x (ix2 i j)) (fun c j => w (ix2 c j)) (fun c => b (ix1 c)) i c := by
  pointwise [refGate, gate]

/-- The new state at an index. -/
theorem refUpdate_at (gi gh : FVec Ideal S16x3072 .f32) (h : FVec Ideal S16x1024 .f32) (i : Fin 16) (j : Fin 1024) :
    refUpdate gi gh h (ix2 i j) = update (fun i c => gi (ix2 i c)) (fun i c => gh (ix2 i c)) (fun i j => h (ix2 i j)) i j := by
  pointwise [refUpdate, refLogistic, ones, update, col, Ideal.logistic]

end Cert.Gru

end
-- ==== Proof.RefRun.lean ====
/- The reference's loop over the extended reals: after `k` trips its carried buffers hold the network's states and outputs of the first `k` steps. -/
module

public import proofs.«01_k».proof.Proof.RefStep
public import Idealize.ShloMosaic.Lib.StableHlo.ReadAt

@[expose] public section

set_option maxRecDepth 16384

noncomputable section

namespace Cert.Gru

open Idealize.ShloMosaic Idealize.ShloMosaic.TcCoe Idealize.SL.Sem
open Idealize.ShloMosaic.StableHlo
open Cert.ReferenceIdeal Cert.ReferenceIdeal.Gen Cert.ReferenceIdeal.Value

/-- The slices' starts at a counter. -/
def starts (n : IVec S_ 32) : Fin 3 → ℤ :=
  fun k => (((![n, constantI S_ 32 0#32, constantI S_ 32 0#32] : Fin 3 → IVec S_ 32)) k (Shape.Idx.first h_S_)).toInt

/-- At counter `k` the slices start at row block `k`. -/
theorem starts_zero {n : IVec S_ 32} {k : ℕ} (hk : k < 512) (hn : n = fun _ => BitVec.ofNat 32 k) : starts n 0 = k := by
  subst hn
  show (BitVec.ofNat 32 k).toInt = k
  rw [BitVec.toInt_eq_toNat_of_lt (by rw [BitVec.toNat_ofNat]; omega), BitVec.toNat_ofNat]
  omega

/-- A layer's weights as its four arrays hold them. -/
def weightsIn (wi : FVec Ideal S3072x1024 .f32) (bi : FVec Ideal S3072 .f32) (wh : FVec Ideal S3072x1024 .f32) (bh : FVec Ideal S3072 .f32) : Weights :=
  ⟨fun c j => wi (ix2 c j), fun c j => wh (ix2 c j), fun c => bi (ix1 c), fun c => bh (ix1 c)⟩

/-- One layer's new state: its inputs, its masked state and its weights. -/
def refCell (x h : FVec Ideal S16x1024 .f32) (wi : FVec Ideal S3072x1024 .f32) (bi : FVec Ideal S3072 .f32)
    (wh : FVec Ideal S3072x1024 .f32) (bh : FVec Ideal S3072 .f32) : FVec Ideal S16x1024 .f32 :=
  refUpdate (refGate x wi bi) (refGate h wh bh) h

/-- One layer's new state at an index is the plain step. -/
theorem refCell_at (w : Weights) (x h : FVec Ideal S16x1024 .f32) (X H : Mat 16 1024) (K : Fin 16 → EReal) (wi : FVec Ideal S3072x1024 .f32)
    (bi : FVec Ideal S3072 .f32) (wh : FVec Ideal S3072x1024 .f32) (bh : FVec Ideal S3072 .f32)
    (hw : weightsIn wi bi wh bh = w)
    (hx : ∀ i j, x (ix2 i j) = X i j) (hh : ∀ i j, h (ix2 i j) = H i j * K i) (i : Fin 16) (j : Fin 1024) :
    refCell x h wi bi wh bh (ix2 i j) = step w X K H i j := by
  subst hw
  have ex : (fun i j => x (ix2 i j)) = X := funext fun i => funext fun j => hx i j
  have eh : (fun i j => h (ix2 i j)) = reset H K := funext fun i => funext fun j => hh i j
  unfold refCell
  rw [refUpdate_at]
  simp only [refGate_at]
  rw [ex, eh]
  rfl

/-- The first layer's masked state. -/
def low (h : FVec Ideal S2x16x1024 .f32) : FVec Ideal S16x1024 .f32 :=
  shapeCast S16x1024 (extractStridedSlice S1x16x1024 ![0, 0, 0] h slices_S2x16x1024_S1x16x1024_0_0_0) shapeCasts_S1x16x1024_S16x1024

/-- The second layer's masked state. -/
def high (h : FVec Ideal S2x16x1024 .f32) : FVec Ideal S16x1024 .f32 :=
  shapeCast S16x1024 (extractStridedSlice S1x16x1024 ![1, 0, 0] h slices_S2x16x1024_S1x16x1024_1_0_0) shapeCasts_S1x16x1024_S16x1024

/-- The first layer's masked state at an index. -/
theorem low_at (h : FVec Ideal S2x16x1024 .f32) (i : Fin 16) (j : Fin 1024) : low h (ix2 i j) = h (ix3 0 i j) := by
  pointwise [low]

/-- The second layer's masked state at an index. -/
theorem high_at (h : FVec Ideal S2x16x1024 .f32) (i : Fin 16) (j : Fin 1024) : high h (ix2 i j) = h (ix3 1 i j) := by
  pointwise [high]

/-- The two layers' new states, one above the other. -/
def both (a b : FVec Ideal S16x1024 .f32) : FVec Ideal S2x16x1024 .f32 :=
  concatenate S2x16x1024 0 [⟨S1x16x1024, broadcastInDim S1x16x1024 ![1, 2] bcast_S16x1024_S1x16x1024_1_2 a⟩,
    ⟨S1x16x1024, broadcastInDim S1x16x1024 ![1, 2] bcast_S16x1024_S1x16x1024_1_2 b⟩] concatenates_S1x16x1024_S1x16x1024_S2x16x1024_d0

/-- The two new states at an index: the layer picks one. -/
theorem both_at (a b : FVec Ideal S16x1024 .f32) (l : Fin 2) (i : Fin 16) (j : Fin 1024) :
    both a b (ix3 l i j) = if l = 0 then a (ix2 i j) else b (ix2 i j) := by
  fin_cases l
  · pointwise [both]
  · pointwise [both]

section values

variable (V : Valuation τ sig (Elt Ideal))

/-- The inputs a valuation carries. -/
def cx : FVec Ideal S512x16x1024 .f32 := V (Proc.devRef .tc main_v4_0)
/-- The masks a valuation carries. -/
def cm : FVec Ideal S512x16x1 .f32 := V (Proc.devRef .tc main_v4_1)
/-- The counter a valuation carries. -/
def cn : IVec S_ 32 := V (Proc.devRef .tc main_v4_10)
/-- The states a valuation carries. -/
def ch : FVec Ideal S2x16x1024 .f32 := V (Proc.devRef .tc main_v4_11)
/-- The outputs a valuation carries. -/
def co : FVec Ideal S512x16x1024 .f32 := V (Proc.devRef .tc main_v4_12)

/-- The first layer's weights a valuation carries. -/
def cw0 : Weights := weightsIn (V (Proc.devRef .tc main_v4_2)) (V (Proc.devRef .tc main_v4_3)) (V (Proc.devRef .tc main_v4_4)) (V (Proc.devRef .tc main_v4_5))
/-- The second layer's weights a valuation carries. -/
def cw1 : Weights := weightsIn (V (Proc.devRef .tc main_v4_6)) (V (Proc.devRef .tc main_v4_7)) (V (Proc.devRef .tc main_v4_8)) (V (Proc.devRef .tc main_v4_9))

/-- The trip's first new state is the first layer's cell. -/
theorem v51_eq : res_main_while0b_v51 V = refCell (xRow (cx V) (starts (cn V))) (low (masked2 (ch V) (cm V) (starts (cn V))))
    (V (Proc.devRef .tc main_v4_2)) (V (Proc.devRef .tc main_v4_3)) (V (Proc.devRef .tc main_v4_4)) (V (Proc.devRef .tc main_v4_5)) := rfl

/-- The trip's second new state is the second layer's cell, on the first new state. -/
theorem v91_eq : res_main_while0b_v91 V = refCell (res_main_while0b_v51 V) (high (masked2 (ch V) (cm V) (starts (cn V))))
    (V (Proc.devRef .tc main_v4_6)) (V (Proc.devRef .tc main_v4_7)) (V (Proc.devRef .tc main_v4_8)) (V (Proc.devRef .tc main_v4_9)) := rfl

end values

/-- What the loop's carried buffers hold after `k` trips: the data, the counter, both layers' states, and the outputs so far. -/
structure Holds (d : Data) (k : ℕ) (V : Valuation τ sig (Elt Ideal)) : Prop where
  /-- The inputs are in place. -/
  x : ∀ t i j, cx V (ix3 t i j) = rowsOf d.xs t.val i j
  /-- The masks are in place. -/
  m : ∀ t i, cm V (ix3 t i 0) = d.mask t.val i
  /-- The first layer's weights are in place. -/
  w0 : cw0 V = d.w0
  /-- The second layer's weights are in place. -/
  w1 : cw1 V = d.w1
  /-- The counter has counted the trips. -/
  n : cn V = fun _ => BitVec.ofNat 32 k
  /-- The states are both layers' after `k` steps. -/
  h : ∀ l i j, ch V (ix3 l i j) = if l = 0 then d.state0 k i j else d.state1 k i j
  /-- The outputs of the first `k` steps are written. -/
  o : ∀ (t : Fin 512) i j, t.val < k → co V (ix3 t i j) = d.state1 (t.val + 1) i j

variable {d : Data} {k : ℕ} {V : Valuation τ sig (Elt Ideal)}

/-- A trip's first new state is the first layer's next state. -/
theorem Holds.v51 (H : Holds d k V) (hk : k < 512) (i : Fin 16) (j : Fin 1024) :
    (res_main_while0b_v51 V : FVec Ideal S16x1024 .f32) (ix2 i j) = d.state0 (k + 1) i j := by
  have s0 := starts_zero hk H.n
  rw [v51_eq]
  refine refCell_at d.w0 _ _ (rowsOf d.xs k) (d.state0 k) (d.mask k) _ _ _ _ H.w0 (fun i j => ?_) (fun i j => ?_) i j
  · rw [xRow_at _ k hk s0 rfl rfl, H.x]
  · rw [low_at, masked2_at _ k hk s0 rfl rfl, H.h, H.m]
    rfl

/-- A trip's second new state is the second layer's next state. -/
theorem Holds.v91 (H : Holds d k V) (hk : k < 512) (i : Fin 16) (j : Fin 1024) :
    (res_main_while0b_v91 V : FVec Ideal S16x1024 .f32) (ix2 i j) = d.state1 (k + 1) i j := by
  have s0 := starts_zero hk H.n
  rw [v91_eq]
  refine refCell_at d.w1 _ _ (d.state0 (k + 1)) (d.state1 k) (d.mask k) _ _ _ _ H.w1 (fun i j => H.v51 hk i j) (fun i j => ?_) i j
  rw [high_at, masked2_at _ k hk s0 rfl rfl, H.h, H.m]
  rfl

/-- One trip takes the states and outputs one step on. -/
theorem Holds.step (H : Holds d k V) (hk : k < 512) : Holds d (k + 1) (STEP V) where
  x t i j := (congrFun (STEP_main_v4_0 V) (ix3 t i j)).trans (H.x t i j)
  m t i := (congrFun (STEP_main_v4_1 V) (ix3 t i 0)).trans (H.m t i)
  w0 := by
    unfold cw0
    rw [STEP_main_v4_2, STEP_main_v4_3, STEP_main_v4_4, STEP_main_v4_5]
    exact H.w0
  w1 := by
    unfold cw1
    rw [STEP_main_v4_6, STEP_main_v4_7, STEP_main_v4_8, STEP_main_v4_9]
    exact H.w1
  n := by
    have e : cn (STEP V) = addi (cn V) (constantI S_ 32 1#32) := STEP_main_v4_10 V
    rw [e, H.n]
    funext y
    show BitVec.ofNat 32 k + 1#32 = BitVec.ofNat 32 (k + 1)
    rw [BitVec.ofNat_add]
  h l i j := by
    have e : ch (STEP V) = both (res_main_while0b_v51 V) (res_main_while0b_v91 V) := STEP_main_v4_11 V
    rw [e, both_at, H.v51 hk, H.v91 hk]
  o t i j ht := by
    have e : co (STEP V) = putRow (co V) (res_main_while0b_v91 V) (starts (cn V)) := STEP_main_v4_12 V
    rw [e, putRow_at _ k hk (starts_zero hk H.n) rfl rfl]
    by_cases hc : t.val = k
    · rw [if_pos hc, H.v91 hk, hc]
    · rw [if_neg hc, H.o t i j (by omega)]

/-- After `k` trips the states and outputs are `k` steps on. -/
theorem Holds.iterate (H : Holds d 0 V) : ∀ k ≤ 512, Holds d k (STEP^[k] V)
  | 0, _ => H
  | k + 1, hk => by
    rw [Function.iterate_succ_apply']
    exact (H.iterate k (by omega)).step (by omega)

/-- After the last trip the first result is the network's outputs. -/
theorem Holds.out5 (H : Holds d 512 V) : out_main_v5 V = (fun y => d.output (y 0) (y 1) : FVec Ideal S8192x1024 .f32) := by
  funext y
  obtain ⟨r, j, rfl⟩ : ∃ r j, y = ix2 (n0 := 8192) (n1 := 1024) r j := ⟨y 0, y 1, eq_ix2 (n0 := 8192) (n1 := 1024) y⟩
  have e : out_main_v5 V = shapeCast S8192x1024 (co V) shapeCasts_S512x16x1024_S8192x1024 := rfl
  rw [e]
  have e2 : shapeCast S8192x1024 (co V) shapeCasts_S512x16x1024_S8192x1024 (ix2 r j)
      = co V (ix3 ⟨r.val / 16, by omega⟩ ⟨r.val % 16, Nat.mod_lt _ (by decide)⟩ j) := by
    pointwise []
  rw [e2, H.o _ _ _ (by show r.val / 16 < 512; omega)]
  rfl

/-- After the last trip the second result is both layers' final states. -/
theorem Holds.out6 (H : Holds d 512 V) : out_main_v6 V = (fun y => d.final (y 0) (y 1) (y 2) : FVec Ideal S16x2x1024 .f32) := by
  funext y
  obtain ⟨i, l, j, rfl⟩ : ∃ i l j, y = ix3 (n0 := 16) (n1 := 2) (n2 := 1024) i l j :=
    ⟨y 0, y 1, y 2, eq_ix3 (n0 := 16) (n1 := 2) (n2 := 1024) y⟩
  have e : out_main_v6 V = transpose S16x2x1024 [1, 0, 2] (ch V) transposes_S2x16x1024_S16x2x1024_1_0_2 := rfl
  rw [e]
  have e2 : transpose S16x2x1024 [1, 0, 2] (ch V) transposes_S2x16x1024_S16x2x1024_1_0_2 (ix3 i l j) = ch V (ix3 l i j) := by
    pointwise []
  rw [e2, H.h]
  rfl

variable (m : (ℓ : Loc nD τ sig) → Buf (Elt Ideal) ℓ)

/-- The network's data in the reference's arguments. -/
def refData (c : Dev nD) : Data :=
  dataOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The inputs, a step's rows apart: row `i` of step `t` is row `16 t + i`. -/
theorem xs_at (x : FVec Ideal S8192x1024 .f32) (t : Fin 512) (i : Fin 16) (j : Fin 1024) :
    shapeCast S512x16x1024 x shapeCasts_S8192x1024_S512x16x1024 (ix3 t i j) = rowsOf (fun r j => x (ix2 r j)) t.val i j := by
  pointwise [rowsOf]
  congr 2
  exact Fin.ext (by show t.val * 16 + i.val = (16 * t.val + i.val) % 8192; omega)

/-- The masks, a step's apart. -/
theorem ms_at (k : FVec Ideal S8192x1 .f32) (t : Fin 512) (i : Fin 16) :
    shapeCast S512x16x1 k shapeCasts_S8192x1_S512x16x1 (ix3 t i 0) = k (ix2 ⟨(16 * t.val + i.val) % 8192, Nat.mod_lt _ (by decide)⟩ 0) := by
  pointwise []
  congr 2
  exact Fin.ext (by show t.val * 16 + i.val = (16 * t.val + i.val) % 8192; omega)

/-- The initial states, a layer's apart. -/
theorem hs_at (h : FVec Ideal S16x2x1024 .f32) (l : Fin 2) (i : Fin 16) (j : Fin 1024) :
    transpose S2x16x1024 [1, 0, 2] h transposes_S16x2x1024_S2x16x1024_1_0_2 (ix3 l i j) = h (ix3 i l j) := by
  pointwise []

/-- The loop starts with the data in place, the counter at zero and the initial states. -/
theorem entry_holds (c : Dev nD) : Holds (refData m c) 0 (entryContents preI m c) where
  x t i j := by
    have e : cx (entryContents preI m c) = shapeCast S512x16x1024 (m ((c.tc : Thread nD τ).loc main_arg0) : FVec Ideal S8192x1024 .f32) shapeCasts_S8192x1024_S512x16x1024 := by
      unfold cx
      simp only [entryContents, afterL_cons, afterL_nil]
      after_reads_simp
      rfl
    rw [e]
    exact xs_at _ t i j
  m t i := by
    have e : cm (entryContents preI m c) = shapeCast S512x16x1 (m ((c.tc : Thread nD τ).loc main_arg2) : FVec Ideal S8192x1 .f32) shapeCasts_S8192x1_S512x16x1 := by
      unfold cm
      simp only [entryContents, afterL_cons, afterL_nil]
      after_reads_simp
      rfl
    rw [e]
    exact ms_at _ t i
  w0 := by
    unfold cw0
    simp only [entryContents, afterL_cons, afterL_nil]
    after_reads_simp
    rfl
  w1 := by
    unfold cw1
    simp only [entryContents, afterL_cons, afterL_nil]
    after_reads_simp
    rfl
  n := ctr_entry m c
  h l i j := by
    have e : ch (entryContents preI m c) = transpose S2x16x1024 [1, 0, 2] (m ((c.tc : Thread nD τ).loc main_arg1) : FVec Ideal S16x2x1024 .f32) transposes_S16x2x1024_S2x16x1024_1_0_2 := by
      unfold ch
      simp only [entryContents, afterL_cons, afterL_nil]
      after_reads_simp
      rfl
    rw [e, hs_at]
    fin_cases l
    · rfl
    · rfl
  o t i j ht := absurd ht (by omega)

end Cert.Gru

end
-- ==== Proof.Algebraic.lean ====
/- Kernel and reference compute the same two results over the extended reals: both are the network's outputs and final states of their arguments. -/
module

public import proofs.«01_k».proof.Defs
public import proofs.«01_k».proof.Proof.Frame
public import proofs.«01_k».proof.Proof.Result
public import proofs.«01_k».proof.Proof.RefRun

@[expose] public section

set_option maxRecDepth 16384

noncomputable section

namespace Cert.Gru

open Idealize.ShloMosaic Idealize.ShloMosaic.TcCoe Idealize.SL.Sem

/-- The two programs' results are equal. -/
theorem algebraic : algebraic_KernelIdeal_ReferenceIdeal (hKernelIdeal := KernelIdeal.Gen.facts) (hReferenceIdeal := ReferenceIdeal.Gen.facts) := by
  intro m g m' g' _ he
  have hd : ∀ c, refData m' c = data m c := fun c => by
    obtain ⟨h0, h1, h2, h3, h4, h5, h6, h7, h8, h9, h10⟩ := he c
    unfold refData data
    rw [h0, h1, h2, h3, h4, h5, h6, h7, h8, h9, h10]
  have hr : ∀ c, Holds (data m c) 512 (ReferenceIdeal.Value.STEP^[512] (StableHlo.entryContents ReferenceIdeal.Value.preI m' c)) :=
    fun c => hd c ▸ (entry_holds m' c).iterate 512 le_rfl
  refine ⟨fun c y => (data m c).output (y 0) (y 1), fun c y => (data m c).final (y 0) (y 1) (y 2), ?_, ?_⟩
  · refine (θ_run _ _ _).mono (fun r h c => ?_) (run m g)
    exact ⟨(h.1 c _ (by decide)).trans (kernel_output m c), (h.1 c _ (by decide)).trans (kernel_final m c),
      arg_kept m c h.1 _ (by decide), arg_kept m c h.1 _ (by decide), arg_kept m c h.1 _ (by decide), arg_kept m c h.1 _ (by decide),
      arg_kept m c h.1 _ (by decide), arg_kept m c h.1 _ (by decide), arg_kept m c h.1 _ (by decide), arg_kept m c h.1 _ (by decide),
      arg_kept m c h.1 _ (by decide), arg_kept m c h.1 _ (by decide), arg_kept m c h.1 _ (by decide)⟩
  · refine (θ_run _ _ _).mono (fun r h c => ?_) (ReferenceIdeal.Value.run m' g')
    exact ⟨(h c).1.trans (hr c).out5, (h c).2.1.trans (hr c).out6, (h c).2.2⟩

end Cert.Gru

end
-- ==== Proof.lean ====
/- The claim: the kernel and its reading over the reals keep their frames, the reference keeps its own, the reading over the
   reals is the kernel's own text, and kernel and reference end with equal results. -/
module

public import proofs.«01_k».proof.Defs
public import proofs.«01_k».proof.Proof.Gen.ReferenceIdeal.Run
public import proofs.«01_k».proof.Proof.Frame
public import proofs.«01_k».proof.Proof.RefFrame
public import proofs.«01_k».proof.Proof.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Gru.kernel_of_frames (fun m g => Cert.Gru.frame m g), fun m g _ => Cert.Gru.frame m g, Cert.Gru.ref_frame, trivial,
  Cert.Gru.algebraic⟩

end Cert.Proof

end
